-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v32_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x18432 : Shape := ⟨3, ![8, 2048, 18432]⟩
abbrev S18432x7168 : Shape := ⟨2, ![18432, 7168]⟩
abbrev S7168 : Shape := ⟨1, ![7168]⟩
abbrev S_ : Shape := ⟨0, ![]⟩

class Facts : Prop where
  bcast_S_S8x2048x18432 : S_.BroadcastsInDim S8x2048x18432 (![] : Fin 0 → Fin S8x2048x18432.rank)

variable [Facts]

def fn {F : FTy → Type} [FloatOps F] (main_arg0 : FVec F S8x2048x18432 .bf16) (main_arg1 : FVec F S18432x7168 .fp8e4m3) (main_arg2 : FVec F S7168 .f32) : IVec S8x2048x18432 1 :=
  let main_v0 : FVec F S8x2048x18432 .bf16 := Host.absf main_arg0
  let main_cst : FVec F S_ .bf16 := constant S_ .bf16 0x7F7F#16
  let main_v1 : FVec F S8x2048x18432 .bf16 := broadcastInDim S8x2048x18432 ![] bcast_S_S8x2048x18432 main_cst
  let main_v2 : IVec S8x2048x18432 1 := cmpf .ole main_v0 main_v1
  main_v2
-- ==== Kernel.lean ====
abbrev S8x2048x18432 : Shape := ⟨3, ![8, 2048, 18432]⟩
abbrev S18432x7168 : Shape := ⟨2, ![18432, 7168]⟩
abbrev S7168 : Shape := ⟨1, ![7168]⟩
abbrev S256x256 : Shape := ⟨2, ![256, 256]⟩
abbrev S16384x18432 : Shape := ⟨2, ![16384, 18432]⟩
abbrev S8x144x2048 : Shape := ⟨3, ![8, 144, 2048]⟩
abbrev S256x2048 : Shape := ⟨2, ![256, 2048]⟩
abbrev S1x16x256 : Shape := ⟨3, ![1, 16, 256]⟩
abbrev S128x128 : Shape := ⟨2, ![128, 128]⟩
abbrev S128x256 : Shape := ⟨2, ![128, 256]⟩
abbrev S128 : Shape := ⟨1, ![128]⟩
abbrev S128x1 : Shape := ⟨2, ![128, 1]⟩
abbrev S16x128 : Shape := ⟨2, ![16, 128]⟩
abbrev S1x16x128 : Shape := ⟨3, ![1, 16, 128]⟩
abbrev S1x7168 : Shape := ⟨2, ![1, 7168]⟩
abbrev S16384x7168 : Shape := ⟨2, ![16384, 7168]⟩
abbrev S512x18432 : Shape := ⟨2, ![512, 18432]⟩
abbrev S18432x512 : Shape := ⟨2, ![18432, 512]⟩
abbrev S1x512 : Shape := ⟨2, ![1, 512]⟩
abbrev S512x512 : Shape := ⟨2, ![512, 512]⟩
abbrev S8x2048x7168 : Shape := ⟨3, ![8, 2048, 7168]⟩
abbrev S8x2048x144 : Shape := ⟨3, ![8, 2048, 144]⟩

abbrev nBuf : Space → Nat
  | .hbm => 13
  | .vmem => 17
  | .smem => 0
  | _ => 0

abbrev bufTy : (tb : Table) → Fin (tcTables nBuf tb) → BufTy
  | .hbm, ⟨0, _⟩ => ⟨S8x2048x18432, .bf16⟩
  | .hbm, ⟨1, _⟩ => ⟨S18432x7168, .fp8e4m3⟩
  | .hbm, ⟨2, _⟩ => ⟨S7168, .f32⟩
  | .hbm, ⟨3, _⟩ => ⟨S256x256, .bf16⟩
  | .hbm, ⟨4, _⟩ => ⟨S16384x18432, .bf16⟩
  | .hbm, ⟨5, _⟩ => ⟨S16384x18432, .fp8e4m3⟩
  | .hbm, ⟨6, _⟩ => ⟨S8x144x2048, .f32⟩
  | .hbm, ⟨7, _⟩ => ⟨S16384x18432, .bf16⟩
  | .hbm, ⟨8, _⟩ => ⟨S1x7168, .f32⟩
  | .hbm, ⟨9, _⟩ => ⟨S16384x7168, .bf16⟩
  | .hbm, ⟨10, _⟩ => ⟨S8x2048x7168, .bf16⟩
  | .hbm, ⟨11, _⟩ => ⟨S8x2048x18432, .fp8e4m3⟩
  | .hbm, ⟨12, _⟩ => ⟨S8x2048x144, .f32⟩
  | .local _ .vmem, ⟨0, _⟩ => ⟨S256x2048, .bf16⟩
  | .local _ .vmem, ⟨1, _⟩ => ⟨S256x2048, .bf16⟩
  | .local _ .vmem, ⟨2, _⟩ => ⟨S256x256, .bf16⟩
  | .local _ .vmem, ⟨3, _⟩ => ⟨S256x2048, .fp8e4m3⟩
  | .local _ .vmem, ⟨4, _⟩ => ⟨S256x2048, .fp8e4m3⟩
  | .local _ .vmem, ⟨5, _⟩ => ⟨S1x16x256, .f32⟩
  | .local _ .vmem, ⟨6, _⟩ => ⟨S1x16x256, .f32⟩
  | .local _ .vmem, ⟨7, _⟩ => ⟨S256x2048, .bf16⟩
  | .local _ .vmem, ⟨8, _⟩ => ⟨S256x2048, .bf16⟩
  | .local _ .vmem, ⟨9, _⟩ => ⟨S512x18432, .bf16⟩
  | .local _ .vmem, ⟨10, _⟩ => ⟨S512x18432, .bf16⟩
  | .local _ .vmem, ⟨11, _⟩ => ⟨S18432x512, .fp8e4m3⟩
  | .local _ .vmem, ⟨12, _⟩ => ⟨S18432x512, .fp8e4m3⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S512x512, .bf16⟩
  | _, _ => ⟨S8x2048x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![64, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![32, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x18432 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S18432x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S8x2048x18432 : Shape := ⟨3, ![8, 2048, 18432]⟩
abbrev S18432x7168 : Shape := ⟨2, ![18432, 7168]⟩
abbrev S7168 : Shape := ⟨1, ![7168]⟩
abbrev S2x2 : Shape := ⟨2, ![2, 2]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S8x2048x144x128 : Shape := ⟨4, ![8, 2048, 144, 128]⟩
abbrev S8x2048x144 : Shape := ⟨3, ![8, 2048, 144]⟩
abbrev S254 : Shape := ⟨1, ![254]⟩
abbrev S8x2048x144x1 : Shape := ⟨4, ![8, 2048, 144, 1]⟩
abbrev S1x1x1x254 : Shape := ⟨4, ![1, 1, 1, 254]⟩
abbrev S8x2048x144x254 : Shape := ⟨4, ![8, 2048, 144, 254]⟩
abbrev S8x2048x7168 : Shape := ⟨3, ![8, 2048, 7168]⟩
abbrev S1x1x7168 : Shape := ⟨3, ![1, 1, 7168]⟩

abbrev nBuf : Space → Nat
  | .hbm => 94
  | .vmem => 7
  | .smem => 0
  | _ => 0

abbrev bufTy : (tb : Table) → Fin (tcTables nBuf tb) → BufTy
  | .hbm, ⟨0, _⟩ => ⟨S8x2048x18432, .bf16⟩
  | .hbm, ⟨1, _⟩ => ⟨S18432x7168, .fp8e4m3⟩
  | .hbm, ⟨2, _⟩ => ⟨S7168, .f32⟩
  | .hbm, ⟨3, _⟩ => ⟨S2x2, .f32⟩
  | .hbm, ⟨4, _⟩ => ⟨S_, .f32⟩
  | .hbm, ⟨5, _⟩ => ⟨S1x1, .f32⟩
  | .hbm, ⟨6, _⟩ => ⟨S1x1x1x1, .f32⟩
  | .hbm, ⟨7, _⟩ => ⟨S1x2x1x2, .f32⟩
  | .hbm, ⟨8, _⟩ => ⟨S1x2x1x2, .f32⟩
  | .hbm, ⟨9, _⟩ => ⟨S1x2x1x2, .f32⟩
  | .hbm, ⟨10, _⟩ => ⟨S2x2, .f32⟩
  | .hbm, ⟨11, _⟩ => ⟨S2x1x2x1, .f32⟩
  | .hbm, ⟨12, _⟩ => ⟨S1x2x1x2, .f32⟩
  | .hbm, ⟨13, _⟩ => ⟨S2x2x2x2, .f32⟩
  | .hbm, ⟨14, _⟩ => ⟨S2x2x2x2, .f32⟩
  | .hbm, ⟨15, _⟩ => ⟨S2x2x2x2, .f32⟩
  | .hbm, ⟨16, _⟩ => ⟨S4x4, .f32⟩
  | .hbm, ⟨17, _⟩ => ⟨S4x1x4x1, .f32⟩
  | .hbm, ⟨18, _⟩ => ⟨S1x2x1x2, .f32⟩
  | .hbm, ⟨19, _⟩ => ⟨S4x2x4x2, .f32⟩
  | .hbm, ⟨20, _⟩ => ⟨S4x2x4x2, .f32⟩
  | .hbm, ⟨21, _⟩ => ⟨S4x2x4x2, .f32⟩
  | .hbm, ⟨22, _⟩ => ⟨S8x8, .f32⟩
  | .hbm, ⟨23, _⟩ => ⟨S8x1x8x1, .f32⟩
  | .hbm, ⟨24, _⟩ => ⟨S1x2x1x2, .f32⟩
  | .hbm, ⟨25, _⟩ => ⟨S8x2x8x2, .f32⟩
  | .hbm, ⟨26, _⟩ => ⟨S8x2x8x2, .f32⟩
  | .hbm, ⟨27, _⟩ => ⟨S8x2x8x2, .f32⟩
  | .hbm, ⟨28, _⟩ => ⟨S16x16, .f32⟩
  | .hbm, ⟨29, _⟩ => ⟨S16x1x16x1, .f32⟩
  | .hbm, ⟨30, _⟩ => ⟨S1x2x1x2, .f32⟩
  | .hbm, ⟨31, _⟩ => ⟨S16x2x16x2, .f32⟩
  | .hbm, ⟨32, _⟩ => ⟨S16x2x16x2, .f32⟩
  | .hbm, ⟨33, _⟩ => ⟨S16x2x16x2, .f32⟩
  | .hbm, ⟨34, _⟩ => ⟨S32x32, .f32⟩
  | .hbm, ⟨35, _⟩ => ⟨S32x1x32x1, .f32⟩
  | .hbm, ⟨36, _⟩ => ⟨S1x2x1x2, .f32⟩
  | .hbm, ⟨37, _⟩ => ⟨S32x2x32x2, .f32⟩
  | .hbm, ⟨38, _⟩ => ⟨S32x2x32x2, .f32⟩
  | .hbm, ⟨39, _⟩ => ⟨S32x2x32x2, .f32⟩
  | .hbm, ⟨40, _⟩ => ⟨S64x64, .f32⟩
  | .hbm, ⟨41, _⟩ => ⟨S64x1x64x1, .f32⟩
  | .hbm, ⟨42, _⟩ => ⟨S1x2x1x2, .f32⟩
  | .hbm, ⟨43, _⟩ => ⟨S64x2x64x2, .f32⟩
  | .hbm, ⟨44, _⟩ => ⟨S64x2x64x2, .f32⟩
  | .hbm, ⟨45, _⟩ => ⟨S64x2x64x2, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S8x2048x18432, .f32⟩
  | .hbm, ⟨51, _⟩ => ⟨S8x2048x144x128, .f32⟩
  | .hbm, ⟨52, _⟩ => ⟨S8x2048x144x128, .f32⟩
  | .hbm, ⟨53, _⟩ => ⟨S8x2048x144x128, .f32⟩
  | .hbm, ⟨54, _⟩ => ⟨S_, .f32⟩
  | .hbm, ⟨55, _⟩ => ⟨S8x2048x144, .f32⟩
  | .hbm, ⟨56, _⟩ => ⟨S_, .f32⟩
  | .hbm, ⟨57, _⟩ => ⟨S8x2048x144, .f32⟩
  | .hbm, ⟨58, _⟩ => ⟨S8x2048x144, .f32⟩
  | .hbm, ⟨59, _⟩ => ⟨S254, .f32⟩
  | .hbm, ⟨60, _⟩ => ⟨S_, .f32⟩
  | .hbm, ⟨61, _⟩ => ⟨S254, .f32⟩
  | .hbm, ⟨62, _⟩ => ⟨S254, .f32⟩
  | .hbm, ⟨63, _⟩ => ⟨S8x2048x144x1, .f32⟩
  | .hbm, ⟨64, _⟩ => ⟨S_, .f32⟩
  | .hbm, ⟨65, _⟩ => ⟨S254, .f32⟩
  | .hbm, ⟨66, _⟩ => ⟨S254, .f32⟩
  | .hbm, ⟨67, _⟩ => ⟨S1x1x1x254, .f32⟩
  | .hbm, ⟨68, _⟩ => ⟨S8x2048x144x254, .f32⟩
  | .hbm, ⟨69, _⟩ => ⟨S8x2048x144x254, .f32⟩
  | .hbm, ⟨70, _⟩ => ⟨S8x2048x144x254, .i1⟩
  | .hbm, ⟨71, _⟩ => ⟨S_, .f32⟩
  | .hbm, ⟨72, _⟩ => ⟨S8x2048x144x254, .f32⟩
  | .hbm, ⟨73, _⟩ => ⟨S8x2048x144x254, .f32⟩
  | .hbm, ⟨74, _⟩ => ⟨S8x2048x144x254, .f32⟩
  | .hbm, ⟨75, _⟩ => ⟨S_, .f32⟩
  | .hbm, ⟨76, _⟩ => ⟨S8x2048x144, .f32⟩
  | .hbm, ⟨77, _⟩ => ⟨S_, .f32⟩
  | .hbm, ⟨78, _⟩ => ⟨S8x2048x144, .f32⟩
  | .hbm, ⟨79, _⟩ => ⟨S8x2048x144, .i1⟩
  | .hbm, ⟨80, _⟩ => ⟨S_, .f32⟩
  | .hbm, ⟨81, _⟩ => ⟨S8x2048x144, .f32⟩
  | .hbm, ⟨82, _⟩ => ⟨S8x2048x144, .f32⟩
  | .hbm, ⟨83, _⟩ => ⟨S8x2048x144x128, .fp8e4m3⟩
  | .hbm, ⟨84, _⟩ => ⟨S8x2048x144, .f32⟩
  | .hbm, ⟨85, _⟩ => ⟨S8x2048x144x128, .bf16⟩
  | .hbm, ⟨86, _⟩ => ⟨S18432x7168, .bf16⟩
  | .hbm, ⟨87, _⟩ => ⟨S8x2048x18432, .bf16⟩
  | .hbm, ⟨88, _⟩ => ⟨S8x2048x7168, .f32⟩
  | .hbm, ⟨89, _⟩ => ⟨S1x1x7168, .f32⟩
  | .hbm, ⟨90, _⟩ => ⟨S8x2048x7168, .f32⟩
  | .hbm, ⟨91, _⟩ => ⟨S8x2048x7168, .f32⟩
  | .hbm, ⟨92, _⟩ => ⟨S8x2048x7168, .bf16⟩
  | .hbm, ⟨93, _⟩ => ⟨S8x2048x18432, .fp8e4m3⟩
  | .local _ .vmem, ⟨0, _⟩ => ⟨S8x2048x144x128, .f32⟩
  | .local _ .vmem, ⟨1, _⟩ => ⟨S8x2048x144, .f32⟩
  | .local _ .vmem, ⟨2, _⟩ => ⟨S18432x7168, .fp8e4m3⟩
  | .local _ .vmem, ⟨3, _⟩ => ⟨S8x2048x144x128, .fp8e4m3⟩
  | .local _ .vmem, ⟨4, _⟩ => ⟨S8x2048x144, .f32⟩
  | .local _ .vmem, ⟨5, _⟩ => ⟨S8x2048x144x128, .bf16⟩
  | .local _ .vmem, ⟨6, _⟩ => ⟨S18432x7168, .bf16⟩
  | _, _ => ⟨S8x2048x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v2 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v3 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_call3_v3 : Ref sig .tc := ⟨.hbm, 26, rfl⟩
abbrev main_call3_v4 : Ref sig .tc := ⟨.hbm, 27, rfl⟩
abbrev main_v4 : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_v5 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v6 : Ref sig .tc := ⟨.hbm, 40, rfl⟩
abbrev main_call6_v0 : Ref sig .tc := ⟨.hbm, 41, rfl⟩
abbrev main_call6_v1 : Ref sig .tc := ⟨.hbm, 42, rfl⟩
abbrev main_call6_v2 : Ref sig .tc := ⟨.hbm, 43, rfl⟩
abbrev main_call6_v3 : Ref sig .tc := ⟨.hbm, 44, rfl⟩
abbrev main_call6_v4 : Ref sig .tc := ⟨.hbm, 45, rfl⟩
abbrev main_v7 : Ref sig .tc := ⟨.hbm, 46, rfl⟩
abbrev main_cst_1 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_2 : Ref sig .tc := ⟨.hbm, 54, rfl⟩
abbrev main_v14 : Ref sig .tc := ⟨.hbm, 55, rfl⟩
abbrev main_cst_3 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_4 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_cst_5 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_6 : Ref sig .tc := ⟨.hbm, 71, rfl⟩
abbrev main_call7_v0 : Ref sig .tc := ⟨.hbm, 72, rfl⟩
abbrev main_call7_v1 : Ref sig .tc := ⟨.hbm, 73, rfl⟩
abbrev main_v27 : Ref sig .tc := ⟨.hbm, 74, rfl⟩
abbrev main_cst_7 : Ref sig .tc := ⟨.hbm, 75, rfl⟩
abbrev main_v28 : Ref sig .tc := ⟨.hbm, 76, rfl⟩
abbrev main_cst_8 : Ref sig .tc := ⟨.hbm, 77, rfl⟩
abbrev main_v29 : Ref sig .tc := ⟨.hbm, 78, rfl⟩
abbrev main_v30 : Ref sig .tc := ⟨.hbm, 79, rfl⟩
abbrev main_cst_9 : Ref sig .tc := ⟨.hbm, 80, rfl⟩
abbrev main_call8_v0 : Ref sig .tc := ⟨.hbm, 81, rfl⟩
abbrev main_v31 : Ref sig .tc := ⟨.hbm, 82, rfl⟩
abbrev main_v32_0 : Ref sig .tc := ⟨.hbm, 83, rfl⟩
abbrev main_v32_1 : Ref sig .tc := ⟨.hbm, 84, rfl⟩
abbrev main_v32_2 : Ref sig .tc := ⟨.hbm, 85, rfl⟩
abbrev main_v32_3 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x144x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x144x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/-
  The kernel's run, with its three results: every execution ends, each result holding what the last boundary of the
  program's segments (`Gen.W5`) says, each argument unchanged.
-/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion, which takes unfolding plain definitions
set_option backward.isDefEq.respectTransparency.types false in
/-- Every execution ends with the three results at the last boundary's contents and the arguments unchanged. -/
theorem run : θ_run defs (onTc (τ := τ) (main (F := F))) ⟨m, fun _ => 0, ρ⟩ (fun r => ∀ c : Dev nD,
      r.2.mem ((c.tc : Thread nD τ).loc main_v4) = W5 m ρ c main_v4
      ∧ r.2.mem ((c.tc : Thread nD τ).loc main_v5) = W5 m ρ c main_v5
      ∧ r.2.mem ((c.tc : Thread nD τ).loc main_v6) = W5 m ρ c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v4 (by decide)), h c _ (mem_uc main_v5 (by decide)), h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Hand

end
-- ==== Proof.Signs.lean ====
/-
  The 128 × 128 matrix of signs that both programs build by seven Kronecker products of a 2 × 2 matrix, and the 256 × 256
  matrix holding it twice on its diagonal: what they hold, index by index.
-/
module

public import Idealize.ShloMosaic.PureOps
public import Idealize.ShloMosaic.PureOps.Ideal.Laws
public import Idealize.ShloMosaic.Lib.Pipeline.Value
public import Idealize.ShloMosaic.Lib.ValueIdx
public import Idealize.ShloMosaic.Lib.IdealHost

@[expose] public section

set_option maxRecDepth 16384

noncomputable section

namespace Cert.Signs

open Idealize.ShloMosaic Idealize.ShloMosaic.ValueIdx

variable {sa sb sa' sb' sp sr : Shape}

/-- A Kronecker product as the programs spell it: both operands broadcast to four axes, multiplied, reshaped. -/
def kronV {da : Fin sa.rank → Fin sa'.rank} {db : Fin sb.rank → Fin sb'.rank} {da2 : Fin sa'.rank → Fin sp.rank} {db2 : Fin sb'.rank → Fin sp.rank}
    (ha : sa.BroadcastsInDim sa' da) (hb : sb.BroadcastsInDim sb' db) (ha2 : sa'.BroadcastsInDim sp da2) (hb2 : sb'.BroadcastsInDim sp db2)
    (hr : sp.ShapeCasts sr) (x : FVec Ideal sa .f32) (y : FVec Ideal sb .f32) : FVec Ideal sr .f32 :=
  shapeCast sr (mulf (broadcastInDim sp da2 ha2 (broadcastInDim sa' da ha x) : FVec Ideal sp .f32) (broadcastInDim sp db2 hb2 (broadcastInDim sb' db hb y))) hr

/-- The first product, whose right operand has the four axes' shape after one broadcast. -/
def kron1V {da : Fin sa.rank → Fin sa'.rank} {db : Fin sb.rank → Fin sp.rank} {da2 : Fin sa'.rank → Fin sp.rank}
    (ha : sa.BroadcastsInDim sa' da) (hb : sb.BroadcastsInDim sp db) (ha2 : sa'.BroadcastsInDim sp da2)
    (hr : sp.ShapeCasts sr) (x : FVec Ideal sa .f32) (y : FVec Ideal sb .f32) : FVec Ideal sr .f32 :=
  shapeCast sr (mulf (broadcastInDim sp da2 ha2 (broadcastInDim sa' da ha x) : FVec Ideal sp .f32) (broadcastInDim sp db hb y)) hr

/-- Every entry is one or minus one. -/
def PM {s : Shape} (v : s.Idx → EReal) : Prop := ∀ i, v i = ((1 : ℝ) : EReal) ∨ v i = ((-1 : ℝ) : EReal)

theorem mul_pm {a b : EReal} (ha : a = ((1 : ℝ) : EReal) ∨ a = ((-1 : ℝ) : EReal)) (hb : b = ((1 : ℝ) : EReal) ∨ b = ((-1 : ℝ) : EReal)) :
    a * b = ((1 : ℝ) : EReal) ∨ a * b = ((-1 : ℝ) : EReal) := by
  rcases ha with rfl | rfl <;> rcases hb with rfl | rfl <;> rw [← EReal.coe_mul] <;> norm_num

theorem PM.kronV {da : Fin sa.rank → Fin sa'.rank} {db : Fin sb.rank → Fin sb'.rank} {da2 : Fin sa'.rank → Fin sp.rank} {db2 : Fin sb'.rank → Fin sp.rank}
    (ha : sa.BroadcastsInDim sa' da) (hb : sb.BroadcastsInDim sb' db) (ha2 : sa'.BroadcastsInDim sp da2) (hb2 : sb'.BroadcastsInDim sp db2)
    (hr : sp.ShapeCasts sr) {x : FVec Ideal sa .f32} {y : FVec Ideal sb .f32} (hx : PM x) (hy : PM y) : PM (kronV ha hb ha2 hb2 hr x y) :=
  fun _ => mul_pm (hx _) (hy _)

theorem PM.kron1V {da : Fin sa.rank → Fin sa'.rank} {db : Fin sb.rank → Fin sp.rank} {da2 : Fin sa'.rank → Fin sp.rank}
    (ha : sa.BroadcastsInDim sa' da) (hb : sb.BroadcastsInDim sp db) (ha2 : sa'.BroadcastsInDim sp da2)
    (hr : sp.ShapeCasts sr) {x : FVec Ideal sa .f32} {y : FVec Ideal sb .f32} (hx : PM x) (hy : PM y) : PM (kron1V ha hb ha2 hr x y) :=
  fun _ => mul_pm (hx _) (hy _)

/-- The words of the 2 × 2 matrix `[[1, 1], [1, -1]]`. -/
def words : Fin 4 → BitVec 32 := ![0x3F800000#32, 0x3F800000#32, 0x3F800000#32, 0xBF800000#32]

/-- The 2 × 2 matrix. -/
def base : FVec Ideal ⟨2, ![2, 2]⟩ .f32 := fun i => Ideal.ofBits .f32 (words ((⟨2, ![2, 2]⟩ : Shape).rowMajor i))

/-- The 1 × 1 matrix of one. -/
def one : FVec Ideal ⟨2, ![1, 1]⟩ .f32 := fun _ => Ideal.ofBits .f32 0x3F800000#32

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem base_pm : PM base := by
  intro i
  show Ideal.ofBits .f32 (words _) = _ ∨ Ideal.ofBits .f32 (words _) = _
  generalize ((⟨2, ![2, 2]⟩ : Shape).rowMajor i) = k
  have h : ∀ k : Fin 4, words k = 0x3F800000#32 ∨ words k = 0xBF800000#32 := by decide
  rcases h k with e | e
  · exact .inl ((congrArg _ e).trans ofBits_one)
  · exact .inr ((congrArg _ e).trans ofBits_neg_one)

theorem one_pm : PM one := fun _ => .inl ofBits_one

/-- The signs of order 2, 4, …, 128. -/
def signs2 : FVec Ideal ⟨2, ![2, 2]⟩ .f32 :=
  kron1V (sa' := ⟨4, ![1, 1, 1, 1]⟩) (sp := ⟨4, ![1, 2, 1, 2]⟩) (da := ![0, 2]) (db := ![1, 3]) (da2 := ![0, 1, 2, 3])
    (by decide) (by decide) (by decide) (by decide) one base
def signs4 : FVec Ideal ⟨2, ![4, 4]⟩ .f32 :=
  kronV (sa' := ⟨4, ![2, 1, 2, 1]⟩) (sb' := ⟨4, ![1, 2, 1, 2]⟩) (sp := ⟨4, ![2, 2, 2, 2]⟩) (da := ![0, 2]) (db := ![1, 3]) (da2 := ![0, 1, 2, 3])
    (db2 := ![0, 1, 2, 3]) (by decide) (by decide) (by decide) (by decide) (by decide) signs2 base
def signs8 : FVec Ideal ⟨2, ![8, 8]⟩ .f32 :=
  kronV (sa' := ⟨4, ![4, 1, 4, 1]⟩) (sb' := ⟨4, ![1, 2, 1, 2]⟩) (sp := ⟨4, ![4, 2, 4, 2]⟩) (da := ![0, 2]) (db := ![1, 3]) (da2 := ![0, 1, 2, 3])
    (db2 := ![0, 1, 2, 3]) (by decide) (by decide) (by decide) (by decide) (by decide) signs4 base
def signs16 : FVec Ideal ⟨2, ![16, 16]⟩ .f32 :=
  kronV (sa' := ⟨4, ![8, 1, 8, 1]⟩) (sb' := ⟨4, ![1, 2, 1, 2]⟩) (sp := ⟨4, ![8, 2, 8, 2]⟩) (da := ![0, 2]) (db := ![1, 3]) (da2 := ![0, 1, 2, 3])
    (db2 := ![0, 1, 2, 3]) (by decide) (by decide) (by decide) (by decide) (by decide) signs8 base
def signs32 : FVec Ideal ⟨2, ![32, 32]⟩ .f32 :=
  kronV (sa' := ⟨4, ![16, 1, 16, 1]⟩) (sb' := ⟨4, ![1, 2, 1, 2]⟩) (sp := ⟨4, ![16, 2, 16, 2]⟩) (da := ![0, 2]) (db := ![1, 3]) (da2 := ![0, 1, 2, 3])
    (db2 := ![0, 1, 2, 3]) (by decide) (by decide) (by decide) (by decide) (by decide) signs16 base
def signs64 : FVec Ideal ⟨2, ![64, 64]⟩ .f32 :=
  kronV (sa' := ⟨4, ![32, 1, 32, 1]⟩) (sb' := ⟨4, ![1, 2, 1, 2]⟩) (sp := ⟨4, ![32, 2, 32, 2]⟩) (da := ![0, 2]) (db := ![1, 3]) (da2 := ![0, 1, 2, 3])
    (db2 := ![0, 1, 2, 3]) (by decide) (by decide) (by decide) (by decide) (by decide) signs32 base
def signs : FVec Ideal ⟨2, ![128, 128]⟩ .f32 :=
  kronV (sa' := ⟨4, ![64, 1, 64, 1]⟩) (sb' := ⟨4, ![1, 2, 1, 2]⟩) (sp := ⟨4, ![64, 2, 64, 2]⟩) (da := ![0, 2]) (db := ![1, 3]) (da2 := ![0, 1, 2, 3])
    (db2 := ![0, 1, 2, 3]) (by decide) (by decide) (by decide) (by decide) (by decide) signs64 base

/-- Every entry of the matrix of signs is one or minus one. -/
theorem signs_pm : PM signs :=
  .kronV _ _ _ _ _ (.kronV _ _ _ _ _ (.kronV _ _ _ _ _ (.kronV _ _ _ _ _ (.kronV _ _ _ _ _ (.kronV _ _ _ _ _
    (.kron1V _ _ _ _ one_pm base_pm) base_pm) base_pm) base_pm) base_pm) base_pm) base_pm

/-- The product of a 2 × 2 matrix and a 128 × 128 one, entry by entry. -/
theorem kron256_apply (ha hb ha2 hb2 hr) (E : FVec Ideal ⟨2, ![2, 2]⟩ .f32) (S : FVec Ideal ⟨2, ![128, 128]⟩ .f32) (k j : Fin 256) :
    kronV (sa := ⟨2, ![2, 2]⟩) (sb := ⟨2, ![128, 128]⟩) (sa' := ⟨4, ![2, 1, 2, 1]⟩) (sb' := ⟨4, ![1, 128, 1, 128]⟩) (sp := ⟨4, ![2, 128, 2, 128]⟩)
      (sr := ⟨2, ![256, 256]⟩) (da := ![0, 2]) (db := ![1, 3]) (da2 := ![0, 1, 2, 3]) (db2 := ![0, 1, 2, 3]) ha hb ha2 hb2 hr E S (ix2 k j)
      = E (ix2 ⟨k.val / 128, by omega⟩ ⟨j.val / 128, by omega⟩) * S (ix2 ⟨k.val % 128, by omega⟩ ⟨j.val % 128, by omega⟩) := by
  unfold kronV
  rw [shapeCast_apply _ hr (ix2 k j) (ix4 (⟨k.val / 128, by omega⟩ : Fin 2) (⟨k.val % 128, by omega⟩ : Fin 128)
    (⟨j.val / 128, by omega⟩ : Fin 2) (⟨j.val % 128, by omega⟩ : Fin 128))
    (by rw [Shape.rowMajor_val_four, Shape.rowMajor_val_two]
        show ((k.val / 128 * 128 + k.val % 128) * 2 + j.val / 128) * 128 + j.val % 128 = k.val * 256 + j.val
        omega)]
  rw [mulf_apply]
  refine congrArg₂ (· * ·) ?_ ?_
  · rw [broadcastInDim_apply _ ha2 _ _ (ix4 (⟨k.val / 128, by omega⟩ : Fin 2) (0 : Fin 1) (⟨j.val / 128, by omega⟩ : Fin 2) (0 : Fin 1))
        (fun a => by match a with | ⟨0, _⟩ => rfl | ⟨1, _⟩ => rfl | ⟨2, _⟩ => rfl | ⟨3, _⟩ => rfl),
      broadcastInDim_apply _ ha _ _ (ix2 (⟨k.val / 128, by omega⟩ : Fin 2) (⟨j.val / 128, by omega⟩ : Fin 2))
        (fun a => by match a with | ⟨0, _⟩ => rfl | ⟨1, _⟩ => rfl)]
  · rw [broadcastInDim_apply _ hb2 _ _ (ix4 (0 : Fin 1) (⟨k.val % 128, by omega⟩ : Fin 128) (0 : Fin 1) (⟨j.val % 128, by omega⟩ : Fin 128))
        (fun a => by match a with | ⟨0, _⟩ => rfl | ⟨1, _⟩ => rfl | ⟨2, _⟩ => rfl | ⟨3, _⟩ => rfl),
      broadcastInDim_apply _ hb _ _ (ix2 (⟨k.val % 128, by omega⟩ : Fin 128) (⟨j.val % 128, by omega⟩ : Fin 128))
        (fun a => by match a with | ⟨0, _⟩ => rfl | ⟨1, _⟩ => rfl)]

/-- A sum over 256 places against a column that is zero on one half is the sum over the other half. -/
theorem sum_half (f : ℕ → EReal) (E : Fin 2 → EReal) (S : Fin 128 → EReal) (q : Fin 2) (hE : ∀ p, E p = if p = q then 1 else 0) :
    (∑ k : Fin 256, f k.val * (E ⟨k.val / 128, by omega⟩ * S ⟨k.val % 128, by omega⟩)) = ∑ k : Fin 128, f (128 * q.val + k.val) * S k := by
  have hs := Fin.sum_univ_add (a := 128) (b := 128)
    (fun k : Fin (128 + 128) => f k.val * (E ⟨k.val / 128, by omega⟩ * S ⟨k.val % 128, by omega⟩))
  refine hs.trans ?_
  have h0 : ∀ k : Fin 128, f (Fin.castAdd 128 k).val * (E ⟨(Fin.castAdd 128 k).val / 128, by omega⟩ * S ⟨(Fin.castAdd 128 k).val % 128, by omega⟩)
      = f k.val * (E 0 * S k) := fun k => by
    have e1 : (⟨(Fin.castAdd 128 k).val / 128, by omega⟩ : Fin 2) = 0 := Fin.ext (by show k.val / 128 = 0; omega)
    have e2 : (⟨(Fin.castAdd 128 k).val % 128, by omega⟩ : Fin 128) = k := Fin.ext (by show k.val % 128 = k.val; omega)
    rw [e1, e2]; rfl
  have h1 : ∀ k : Fin 128, f (Fin.natAdd 128 k).val * (E ⟨(Fin.natAdd 128 k).val / 128, by omega⟩ * S ⟨(Fin.natAdd 128 k).val % 128, by omega⟩)
      = f (128 + k.val) * (E 1 * S k) := fun k => by
    have e1 : (⟨(Fin.natAdd 128 k).val / 128, by omega⟩ : Fin 2) = 1 := Fin.ext (by show (128 + k.val) / 128 = 1; omega)
    have e2 : (⟨(Fin.natAdd 128 k).val % 128, by omega⟩ : Fin 128) = k := Fin.ext (by show (128 + k.val) % 128 = k.val; omega)
    rw [e1, e2]; rfl
  rw [Finset.sum_congr rfl (fun k _ => h0 k), Finset.sum_congr rfl (fun k _ => h1 k), hE 0, hE 1]
  match q with
  | ⟨0, _⟩ => simp
  | ⟨1, _⟩ => simp

end Cert.Signs

end
-- ==== Proof.Parity.lean ====
/-
  The matrix of signs in closed form: minus one where row and column share an odd number of ones.
-/
module

public import proofs.«01_k».proof.Proof.Signs

@[expose] public section

set_option maxRecDepth 16384

noncomputable section

namespace Cert.Parity

open Idealize.ShloMosaic Idealize.ShloMosaic.ValueIdx Cert.Signs

/-- Whether `k < 128` has an odd number of ones: bit `k` of the constant. -/
def odd (k : Nat) : Bool := Nat.testBit 0x96696996699696696996966996696996 k

/-- Minus one for odd, one for even. -/
def sg (b : Bool) : EReal := bif b then ((-1 : ℝ) : EReal) else ((1 : ℝ) : EReal)

theorem sg_xor (a b : Bool) : sg (xor a b) = sg a * sg b := by
  cases a <;> cases b <;> (simp only [sg, Bool.xor_false, Bool.xor_true, Bool.not_true, Bool.not_false, cond_true, cond_false, ← EReal.coe_mul]) <;> norm_num

/-- The parity of the shared ones: of all but the lowest bit, and of the lowest. -/
theorem odd_land : ∀ r c : Fin 128, odd (Nat.land r.val c.val) = xor (odd (Nat.land (r.val / 2) (c.val / 2))) (odd (Nat.land (r.val % 2) (c.val % 2))) := by
  decide +kernel

/-- The matrix `v` of order `n` is the matrix of signs. -/
def IsSigns {n : Nat} (v : (⟨2, ![n, n]⟩ : Shape).Idx → EReal) : Prop := ∀ r c : Fin n, v (ix2 r c) = sg (odd (Nat.land r.val c.val))

theorem base_signs : IsSigns base := by
  intro r c
  fin_cases r <;> fin_cases c
  · exact ofBits_one
  · exact ofBits_one
  · exact ofBits_one
  · exact ofBits_neg_one

theorem signs2_signs : IsSigns signs2 := by
  intro r c
  have h : signs2 (ix2 r c) = one (ix2 0 0) * base (ix2 r c) := by
    fin_cases r <;> fin_cases c <;> rfl
  rw [h, base_signs r c]
  exact (congrArg (· * _) ofBits_one).trans (by rw [EReal.coe_one, one_mul])

/-- One more Kronecker product with the 2 × 2 matrix doubles the order. -/
theorem IsSigns.kron (a n : Nat) (hn : n = 2 * a) (h128 : n ≤ 128) (ha hb ha2 hb2 hr) (x : FVec Ideal ⟨2, ![a, a]⟩ .f32) (hx : IsSigns x) :
    IsSigns (n := n) (kronV (sa := ⟨2, ![a, a]⟩) (sb := ⟨2, ![2, 2]⟩) (sa' := ⟨4, ![a, 1, a, 1]⟩) (sb' := ⟨4, ![1, 2, 1, 2]⟩) (sp := ⟨4, ![a, 2, a, 2]⟩)
      (sr := ⟨2, ![n, n]⟩) (da := ![0, 2]) (db := ![1, 3]) (da2 := ![0, 1, 2, 3]) (db2 := ![0, 1, 2, 3]) ha hb ha2 hb2 hr x base) := by
  intro r c
  have hr' := r.isLt
  have hc' := c.isLt
  unfold kronV
  rw [shapeCast_apply _ hr (ix2 r c) (ix4 (⟨r.val / 2, by omega⟩ : Fin a) (⟨r.val % 2, by omega⟩ : Fin 2)
    (⟨c.val / 2, by omega⟩ : Fin a) (⟨c.val % 2, by omega⟩ : Fin 2))
    (by rw [Shape.rowMajor_val_four, Shape.rowMajor_val_two]
        show ((r.val / 2 * 2 + r.val % 2) * a + c.val / 2) * 2 + c.val % 2 = r.val * n + c.val
        have e : r.val * n = r.val * a * 2 := (congrArg (r.val * ·) hn).trans (by ring)
        rw [Nat.div_add_mod', e]
        omega)]
  rw [mulf_apply]
  rw [broadcastInDim_apply _ ha2 _ _ (ix4 (⟨r.val / 2, by omega⟩ : Fin a) (0 : Fin 1) (⟨c.val / 2, by omega⟩ : Fin a) (0 : Fin 1))
        (fun k => by
          match k with
          | ⟨0, _⟩ => show r.val / 2 = if a = 1 then 0 else r.val / 2; split_ifs <;> omega
          | ⟨1, _⟩ => rfl
          | ⟨2, _⟩ => show c.val / 2 = if a = 1 then 0 else c.val / 2; split_ifs <;> omega
          | ⟨3, _⟩ => rfl),
      broadcastInDim_apply _ ha _ _ (ix2 (⟨r.val / 2, by omega⟩ : Fin a) (⟨c.val / 2, by omega⟩ : Fin a))
        (fun k => by
          match k with
          | ⟨0, _⟩ => show r.val / 2 = if a = 1 then 0 else r.val / 2; split_ifs <;> omega
          | ⟨1, _⟩ => show c.val / 2 = if a = 1 then 0 else c.val / 2; split_ifs <;> omega),
      broadcastInDim_apply _ hb2 _ _ (ix4 (0 : Fin 1) (⟨r.val % 2, by omega⟩ : Fin 2) (0 : Fin 1) (⟨c.val % 2, by omega⟩ : Fin 2))
        (fun a => by match a with | ⟨0, _⟩ => rfl | ⟨1, _⟩ => rfl | ⟨2, _⟩ => rfl | ⟨3, _⟩ => rfl),
      broadcastInDim_apply _ hb _ _ (ix2 (⟨r.val % 2, by omega⟩ : Fin 2) (⟨c.val % 2, by omega⟩ : Fin 2))
        (fun a => by match a with | ⟨0, _⟩ => rfl | ⟨1, _⟩ => rfl)]
  refine (congrArg₂ (· * ·) (hx _ _) (base_signs _ _)).trans ?_
  rw [← sg_xor]
  exact congrArg sg (odd_land ⟨r.val, by omega⟩ ⟨c.val, by omega⟩).symm

/-- The matrix of signs of order 128. -/
theorem signs_signs : IsSigns signs :=
  .kron 64 128 rfl (by norm_num) _ _ _ _ _ _ (.kron 32 64 rfl (by norm_num) _ _ _ _ _ _ (.kron 16 32 rfl (by norm_num) _ _ _ _ _ _
    (.kron 8 16 rfl (by norm_num) _ _ _ _ _ _ (.kron 4 8 rfl (by norm_num) _ _ _ _ _ _ (.kron 2 4 rfl (by norm_num) _ _ _ _ _ _ signs2_signs)))))

end Cert.Parity

end
-- ==== Proof.Lit.lean ====
/-
  The printed table of the 256 × 256 matrix: each word by its row and column.
-/
module

public import proofs.«01_k».proof.KernelIdeal
public import proofs.«01_k».proof.Proof.Parity

@[expose] public section

set_option maxRecDepth 65536
set_option maxHeartbeats 0

namespace Cert.KernelIdeal.Hand

open Cert.KernelIdeal Cert.Parity

/-- The word at row `r`, column `c` of one 128 × 128 block: one negated where `r` and `c` share an odd number of ones, or
    zero, negated likewise, off the diagonal. -/
def word (on : Bool) (r c : Nat) : BitVec 16 :=
  bif on then bif odd (Nat.land r c) then 0xBF80#16 else 0x3F80#16 else bif odd (Nat.land r c) then 0x8000#16 else 0x0000#16

/-- The 128 values of `a`, by cases. -/
def sel (a : Nat → BitVec 16) (i : Nat) : BitVec 16 := match i with
  | 0 => a 0
  | 1 => a 1
  | 2 => a 2
  | 3 => a 3
  | 4 => a 4
  | 5 => a 5
  | 6 => a 6
  | 7 => a 7
  | 8 => a 8
  | 9 => a 9
  | 10 => a 10
  | 11 => a 11
  | 12 => a 12
  | 13 => a 13
  | 14 => a 14
  | 15 => a 15
  | 16 => a 16
  | 17 => a 17
  | 18 => a 18
  | 19 => a 19
  | 20 => a 20
  | 21 => a 21
  | 22 => a 22
  | 23 => a 23
  | 24 => a 24
  | 25 => a 25
  | 26 => a 26
  | 27 => a 27
  | 28 => a 28
  | 29 => a 29
  | 30 => a 30
  | 31 => a 31
  | 32 => a 32
  | 33 => a 33
  | 34 => a 34
  | 35 => a 35
  | 36 => a 36
  | 37 => a 37
  | 38 => a 38
  | 39 => a 39
  | 40 => a 40
  | 41 => a 41
  | 42 => a 42
  | 43 => a 43
  | 44 => a 44
  | 45 => a 45
  | 46 => a 46
  | 47 => a 47
  | 48 => a 48
  | 49 => a 49
  | 50 => a 50
  | 51 => a 51
  | 52 => a 52
  | 53 => a 53
  | 54 => a 54
  | 55 => a 55
  | 56 => a 56
  | 57 => a 57
  | 58 => a 58
  | 59 => a 59
  | 60 => a 60
  | 61 => a 61
  | 62 => a 62
  | 63 => a 63
  | 64 => a 64
  | 65 => a 65
  | 66 => a 66
  | 67 => a 67
  | 68 => a 68
  | 69 => a 69
  | 70 => a 70
  | 71 => a 71
  | 72 => a 72
  | 73 => a 73
  | 74 => a 74
  | 75 => a 75
  | 76 => a 76
  | 77 => a 77
  | 78 => a 78
  | 79 => a 79
  | 80 => a 80
  | 81 => a 81
  | 82 => a 82
  | 83 => a 83
  | 84 => a 84
  | 85 => a 85
  | 86 => a 86
  | 87 => a 87
  | 88 => a 88
  | 89 => a 89
  | 90 => a 90
  | 91 => a 91
  | 92 => a 92
  | 93 => a 93
  | 94 => a 94
  | 95 => a 95
  | 96 => a 96
  | 97 => a 97
  | 98 => a 98
  | 99 => a 99
  | 100 => a 100
  | 101 => a 101
  | 102 => a 102
  | 103 => a 103
  | 104 => a 104
  | 105 => a 105
  | 106 => a 106
  | 107 => a 107
  | 108 => a 108
  | 109 => a 109
  | 110 => a 110
  | 111 => a 111
  | 112 => a 112
  | 113 => a 113
  | 114 => a 114
  | 115 => a 115
  | 116 => a 116
  | 117 => a 117
  | 118 => a 118
  | 119 => a 119
  | 120 => a 120
  | 121 => a 121
  | 122 => a 122
  | 123 => a 123
  | 124 => a 124
  | 125 => a 125
  | 126 => a 126
  | 127 => a 127
  | _ => 0#16

theorem sel_apply (a : Nat → BitVec 16) (k : Nat) (hk : k < 128) : sel a k = a k := by
  interval_cases k <;> rfl

/-- The words of one quarter of the table, by the index's last two base-128 digits. -/
def quarter (q i : Nat) : BitVec 16 :=
  sel (fun p => sel (fun c => word (Nat.beq (q / 2) (p % 2)) (64 * (q % 2) + p / 2) c) (i % 128)) (i / 128 % 128)

theorem quarter_0 (i : Nat) : lit0t1_0 i = quarter 0 i := rfl
theorem quarter_1 (i : Nat) : lit0t1_1 i = quarter 1 i := rfl
theorem quarter_2 (i : Nat) : lit0t1_2 i = quarter 2 i := rfl
theorem quarter_3 (i : Nat) : lit0t1_3 i = quarter 3 i := rfl

theorem tree (i q : Nat) (hq : q < 4) (e : i / 16384 = q) : lit0t i = quarter q i := by
  unfold lit0t
  rw [e]
  interval_cases q
  · exact quarter_0 i
  · exact quarter_1 i
  · exact quarter_2 i
  · exact quarter_3 i

/-- The table's word at row `r`, column `c`. -/
theorem lit_apply (r c : Fin 256) (i : Fin 65536) (hi : i.val = r.val * 256 + c.val) :
    lit0 i = word (Nat.beq (r.val / 128) (c.val / 128)) (r.val % 128) (c.val % 128) := by
  have hr := r.isLt
  have hc := c.isLt
  show lit0t i.val = _
  rw [tree i.val (r.val / 64) (by omega) (by omega)]
  unfold quarter
  rw [sel_apply _ _ (Nat.mod_lt _ (by norm_num)), sel_apply _ _ (Nat.mod_lt _ (by norm_num))]
  have e1 : i.val / 128 % 128 = 2 * (r.val % 64) + c.val / 128 := by omega
  have e2 : i.val % 128 = c.val % 128 := by omega
  rw [e1, e2]
  congr 1
  · congr 1 <;> omega
  · omega

end Cert.KernelIdeal.Hand
-- ==== Proof.HostK.lean ====
/-
  What the kernel's host operations leave: the rotation matrix's entries, the reshaped arguments before each of the two
  kernels, and the reshaped results after them.
-/
module

public import proofs.«01_k».proof.Proof.Gen.KernelIdeal.Frame
public import proofs.«01_k».proof.Proof.Parity
public import proofs.«01_k».proof.Proof.Lit
public import Idealize.ShloMosaic.Lib.ValueLayout
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ) (ρ : Dev nD → PrngReg) (c : Dev nD)

/-- The value of the word at row `k`, column `j`. -/
theorem word_value (k j : Fin 256) : Ideal.ofBits .bf16 (word (Nat.beq (k.val / 128) (j.val / 128)) (k.val % 128) (j.val % 128))
    = (if (⟨k.val / 128, by omega⟩ : Fin 2) = ⟨j.val / 128, by omega⟩ then (1 : EReal) else 0)
      * Signs.signs (ix2 (⟨k.val % 128, by omega⟩ : Fin 128) (⟨j.val % 128, by omega⟩ : Fin 128)) := by
  rw [Parity.signs_signs]
  show _ = _ * Parity.sg (Parity.odd (Nat.land (k.val % 128) (j.val % 128)))
  unfold word Parity.sg
  generalize Parity.odd (Nat.land (k.val % 128) (j.val % 128)) = o
  by_cases h : k.val / 128 = j.val / 128
  · rw [show Nat.beq (k.val / 128) (j.val / 128) = true by rw [h]; exact Nat.beq_refl _, if_pos (Fin.ext h), one_mul]
    cases o
    · show Ideal.ofBits .bf16 0x3F80#16 = ((1 : ℝ) : EReal)
      simp [Ideal.ofBits, Ideal.ieee, -EReal.coe_mul]; norm_num
    · show Ideal.ofBits .bf16 0xBF80#16 = ((-1 : ℝ) : EReal)
      simp [Ideal.ofBits, Ideal.ieee, -EReal.coe_mul]; norm_num
  · rw [show Nat.beq (k.val / 128) (j.val / 128) = false from Bool.eq_false_iff.mpr fun e => h (Nat.eq_of_beq_eq_true e), if_neg fun e => h (congrArg Fin.val e), zero_mul]
    cases o
    · show Ideal.ofBits .bf16 0x0000#16 = 0
      simp [Ideal.ofBits, Ideal.ieee]
    · show Ideal.ofBits .bf16 0x8000#16 = 0
      simp [Ideal.ofBits, Ideal.ieee]

/-- The rotation matrix before the first kernel: the signs twice on the diagonal. -/
theorem W1_cst (k j : Fin 256) : (W1 m ρ c main_cst : S256x256.Idx → EReal) (ix2 k j)
    = (if (⟨k.val / 128, by omega⟩ : Fin 2) = ⟨j.val / 128, by omega⟩ then (1 : EReal) else 0)
      * Signs.signs (ix2 (⟨k.val % 128, by omega⟩ : Fin 128) (⟨j.val % 128, by omega⟩ : Fin 128)) := by
  have h : W1 m ρ c main_cst = fun i => Ideal.ofBits .bf16 (lit0 (S256x256.rowMajor i)) := by
    unfold W1; after_results <;> rfl
  refine (congrFun h _).trans ?_
  exact (congrArg (Ideal.ofBits .bf16) (lit_apply k j (S256x256.rowMajor (ix2 k j)) (Shape.rowMajor_val_two _))).trans (word_value k j)

/-- The first argument before the first kernel, its two leading axes as one. -/
theorem W1_v0 (b : Fin 8) (s : Fin 2048) (d : Fin 18432) (n : Fin 16384) (hn : n.val = 2048 * b.val + s.val) :
    (W1 m ρ c main_v0 : S16384x18432.Idx → EReal) (ix2 n d) = (m ((c : Thread nD τ).loc main_arg0) : S8x2048x18432.Idx → EReal) (ix3 b s d) := by
  have h : ∀ V : Valuation τ sig (Elt Ideal), StableHlo.after hostOps0 V main_v0
      = shapeCast S16384x18432 (V main_arg0 : S8x2048x18432.Idx → EReal) shapeCasts_S8x2048x18432_S16384x18432 := by
    intro V; after_results <;> rfl
  refine (congrFun (h _) _).trans ?_
  rw [shapeCast_apply _ _ (ix2 n d) (ix3 b s d)
    (by rw [Shape.rowMajor_val_three, Shape.rowMajor_val_two]
        show (b.val * 2048 + s.val) * 18432 + d.val = n.val * 18432 + d.val
        rw [hn]; omega)]

/-- The column scales before the second kernel. -/
theorem W3_v2 (o : Fin 7168) :
    (W3 m ρ c main_v2 : S1x7168.Idx → EReal) (ix2 (0 : Fin 1) o) = (m ((c : Thread nD τ).loc main_arg2) : S7168.Idx → EReal) (ix1 o) := by
  have h : ∀ V : Valuation τ sig (Elt Ideal), StableHlo.after hostOps1 V main_v2
      = shapeCast S1x7168 (V main_arg2 : S7168.Idx → EReal) shapeCasts_S7168_S1x7168 := by
    intro V; after_results <;> rfl
  refine (congrFun (h _) _).trans ?_
  rw [shapeCast_apply _ _ (ix2 (0 : Fin 1) o) (ix1 o)
    (by rw [Shape.rowMajor_val_one, Shape.rowMajor_val_two]
        show o.val = 0 * 7168 + o.val
        omega)]
  exact congrFun (W2_args m ρ c main_arg2 (by decide)) _

/-- The first result, out of the second kernel's array. -/
theorem W5_v4 (b : Fin 8) (s : Fin 2048) (o : Fin 7168) (n : Fin 16384) (hn : n.val = 2048 * b.val + s.val) :
    (W5 m ρ c main_v4 : S8x2048x7168.Idx → EReal) (ix3 b s o) = (W4 m ρ c main_v3 : S16384x7168.Idx → EReal) (ix2 n o) := by
  have h : ∀ V : Valuation τ sig (Elt Ideal), StableHlo.after hostOps2 V main_v4
      = shapeCast S8x2048x7168 (V main_v3 : S16384x7168.Idx → EReal) shapeCasts_S16384x7168_S8x2048x7168 := by
    intro V; after_results <;> rfl
  refine (congrFun (h _) _).trans ?_
  exact shapeCast_apply _ _ (ix3 b s o) (ix2 n o)
    (by rw [Shape.rowMajor_val_three, Shape.rowMajor_val_two]
        show n.val * 7168 + o.val = (b.val * 2048 + s.val) * 7168 + o.val
        rw [hn]; omega)

/-- The second result, out of the first kernel's array of codes. -/
theorem W5_v5 (b : Fin 8) (s : Fin 2048) (d : Fin 18432) (n : Fin 16384) (hn : n.val = 2048 * b.val + s.val) :
    (W5 m ρ c main_v5 : S8x2048x18432.Idx → EReal) (ix3 b s d) = (W4 m ρ c main_v1_0 : S16384x18432.Idx → EReal) (ix2 n d) := by
  have h : ∀ V : Valuation τ sig (Elt Ideal), StableHlo.after hostOps2 V main_v5
      = shapeCast S8x2048x18432 (V main_v1_0 : S16384x18432.Idx → EReal) shapeCasts_S16384x18432_S8x2048x18432 := by
    intro V; after_results <;> rfl
  refine (congrFun (h _) _).trans ?_
  exact shapeCast_apply _ _ (ix3 b s d) (ix2 n d)
    (by rw [Shape.rowMajor_val_three, Shape.rowMajor_val_two]
        show n.val * 18432 + d.val = (b.val * 2048 + s.val) * 18432 + d.val
        rw [hn]; omega)

/-- The third result, out of the first kernel's array of scales. -/
theorem W5_v6 (b : Fin 8) (s : Fin 2048) (g : Fin 144) :
    (W5 m ρ c main_v6 : S8x2048x144.Idx → EReal) (ix3 b s g) = (W4 m ρ c main_v1_1 : S8x144x2048.Idx → EReal) (ix3 b g s) := by
  have h : ∀ V : Valuation τ sig (Elt Ideal), StableHlo.after hostOps2 V main_v6
      = transpose S8x2048x144 [0, 2, 1] (V main_v1_1 : S8x144x2048.Idx → EReal) transposes_S8x144x2048_S8x2048x144_0_2_1 := by
    intro V; after_results <;> rfl
  refine (congrFun (h _) _).trans ?_
  exact transpose_ix3_021_apply _ _ b s g

end Cert.KernelIdeal.Hand

end
-- ==== Proof.Quant.lean ====
/-
  The quantiser's power of two, as arithmetic on one extended real.

  The kernel finds the biased exponent `k` of a nonnegative `t` by an eight-step binary search over words `k · 2²³`, reading
  each candidate word as a float; it then forms `2^(k-126)` and `2^(126-k)` by integer arithmetic on the word. The
  reference takes the least power of two above `t` out of a list and evaluates `2^e` and `2^(-e)`. This file
  proves the two agree for every `0 ≤ t < 2^126`.
-/
module

public import Idealize.ShloMosaic.PureOps
public import Idealize.ShloMosaic.PureOps.Ideal.Laws
public import Idealize.ShloMosaic.Lib.ValueIdx
public import Idealize.ShloMosaic.Lib.IdealHost

@[expose] public section

noncomputable section

namespace Cert.Quant

open Idealize.ShloMosaic Idealize.ShloMosaic.ValueIdx Idealize.ShloMosaic.Ideal

/-- The value of the float whose exponent field is `k` and whose fraction is zero. -/
def pw (k : ℕ) : EReal := if k = 0 then 0 else if k < 255 then (((2 : ℝ) ^ ((k : ℤ) - 127) : ℝ) : EReal) else ⊤

/-- The word with exponent field `k`. -/
def wd (k : ℕ) : BitVec 32 := BitVec.ofNat 32 (k * 8388608)

/-- A word with exponent field `k` and fraction zero reads as `pw k`. -/
theorem ofBits_wd (k : ℕ) (hk : k ≤ 255) : Ideal.ofBits .f32 (wd k) = pw k := by
  have hn : (wd k).toNat = k * 8388608 := by
    unfold wd; rw [BitVec.toNat_ofNat]; omega
  have h1 : ((wd k).extractLsb' 31 1) = 0#1 := by
    apply BitVec.eq_of_toNat_eq
    rw [BitVec.extractLsb'_toNat, hn, Nat.shiftRight_eq_div_pow]
    simp; omega
  have h2 : ((wd k).extractLsb' 23 8).toNat = k := by
    rw [BitVec.extractLsb'_toNat, hn, Nat.shiftRight_eq_div_pow]; omega
  have h3 : ((wd k).extractLsb' 0 23).toNat = 0 := by
    rw [BitVec.extractLsb'_toNat, hn, Nat.shiftRight_eq_div_pow]; omega
  show Ideal.ieee 8 23 (wd k) = _
  unfold Ideal.ieee
  simp only [show (8 + 23 : ℕ) = 31 from rfl, h1, h2, h3]
  unfold pw
  by_cases h0 : k = 0
  · subst h0; simp
  by_cases h255 : k < 255
  · rw [if_neg (by omega), if_neg h0, if_neg h0, if_pos h255]
    congr 1
    have : (2 : ℝ) ^ ((k : ℤ) - 127) = 2 ^ (23 : ℤ) * 2 ^ ((k : ℤ) - 127 - 23) := by
      rw [← zpow_add₀ (by norm_num)]; congr 1; ring
    rw [this]; norm_num
  · rw [if_pos (by omega), if_neg h0, if_neg h255]; simp

/-- `pw` grows with the exponent field. -/
theorem pw_mono {a b : ℕ} (h : a ≤ b) : pw a ≤ pw b := by
  unfold pw
  by_cases ha : a = 0
  · rw [if_pos ha]
    split_ifs
    · exact le_refl _
    · exact EReal.coe_nonneg.mpr (by positivity)
    · exact le_top
  · rw [if_neg ha, if_neg (show b ≠ 0 by omega)]
    by_cases hb : b < 255
    · rw [if_pos hb, if_pos (by omega)]
      exact EReal.coe_le_coe_iff.mpr (zpow_le_zpow_right₀ (by norm_num) (by omega))
    · rw [if_neg hb]; exact le_top

/-- One step of the search: keep the added bit when the candidate's value does not exceed `t`. -/
def step (t : EReal) (bit e : BitVec 32) : BitVec 32 :=
  Scalar.select (FloatOps.cmpf (F := Ideal) (φ := .f32) .oge t (Ideal.ofBits .f32 (IntOp.addi e bit))) (IntOp.addi e bit) e

/-- The eight steps, from the word zero. -/
def search (t : EReal) : BitVec 32 :=
  step t 8388608#32 (step t 16777216#32 (step t 33554432#32 (step t 67108864#32 (step t 134217728#32
    (step t 268435456#32 (step t 536870912#32 (step t 1073741824#32 0#32)))))))

/-- Whether the kernel treats the exponent as zero or as all ones. -/
def plain (e : BitVec 32) : BitVec 1 := IntOp.ori (IntOp.cmpi .eq e 0#32) (IntOp.cmpi .eq e 2139095040#32)

/-- The kernel's multiplier. -/
def kInv (t : EReal) : EReal :=
  Scalar.select (plain (search t)) (Ideal.ofBits .f32 0x3F800000#32) (Ideal.ofBits .f32 (IntOp.subi 2122317824#32 (search t)))

/-- The kernel's scale. -/
def kScale (t : EReal) : EReal :=
  Scalar.select (plain (search t)) (Ideal.ofBits .f32 0x3F800000#32) (Ideal.ofBits .f32 (IntOp.addi (search t) 8388608#32))

theorem addi_wd (k b : ℕ) : IntOp.addi (wd k) (wd b) = wd (k + b) := by
  unfold IntOp.addi wd
  rw [← BitVec.ofNat_add, Nat.add_mul]

/-- A step keeps the bracket `pw k ≤ t < pw (k + b)` and halves its width. -/
theorem step_spec (t : EReal) (k b : ℕ) (hk : k + b ≤ 255) (h0 : pw k ≤ t) (h1 : t < pw (k + (b + b))) :
    ∃ k', k' ≤ k + b ∧ step t (wd b) (wd k) = wd k' ∧ pw k' ≤ t ∧ t < pw (k' + b) := by
  unfold step
  rw [addi_wd, ofBits_wd _ hk]
  by_cases h : pw (k + b) ≤ t
  · refine ⟨k + b, le_refl _, ?_, h, by rwa [add_assoc]⟩
    show (if BitVec.ofBool (decide (pw (k + b) ≤ t)) = 1 then _ else _) = _
    rw [decide_eq_true h]; rfl
  · refine ⟨k, by omega, ?_, h0, not_le.mp h⟩
    show (if BitVec.ofBool (decide (pw (k + b) ≤ t)) = 1 then _ else _) = _
    rw [decide_eq_false h]; rfl

/-- The search ends at the exponent field of `t`. -/
theorem search_spec (t : EReal) (h0 : 0 ≤ t) (h1 : t < ⊤) :
    ∃ k, k ≤ 255 ∧ search t = wd k ∧ pw k ≤ t ∧ t < pw (k + 1) := by
  obtain ⟨k1, b1, e1, l1, u1⟩ := step_spec t 0 128 (by norm_num) (by simpa [pw] using h0) (by simpa [pw] using h1)
  obtain ⟨k2, b2, e2, l2, u2⟩ := step_spec t k1 64 (by omega) l1 (by simpa using u1)
  obtain ⟨k3, b3, e3, l3, u3⟩ := step_spec t k2 32 (by omega) l2 (by simpa using u2)
  obtain ⟨k4, b4, e4, l4, u4⟩ := step_spec t k3 16 (by omega) l3 (by simpa using u3)
  obtain ⟨k5, b5, e5, l5, u5⟩ := step_spec t k4 8 (by omega) l4 (by simpa using u4)
  obtain ⟨k6, b6, e6, l6, u6⟩ := step_spec t k5 4 (by omega) l5 (by simpa using u5)
  obtain ⟨k7, b7, e7, l7, u7⟩ := step_spec t k6 2 (by omega) l6 (by simpa using u6)
  obtain ⟨k8, b8, e8, l8, u8⟩ := step_spec t k7 1 (by omega) l7 (by simpa using u7)
  refine ⟨k8, by omega, ?_, l8, u8⟩
  rw [← e8, ← e7, ← e6, ← e5, ← e4, ← e3, ← e2, ← e1]
  rfl

/-- The shared exponent: `0` for a `t` below the least normal power, else the least `e` with `t < 2^e`. -/
def rexp (k : ℕ) : ℝ := if k = 0 then 0 else (k : ℝ) - 126

theorem rpow_int (r : ℝ) (n : ℤ) (h : r = n) : Real.rpow 2 r = (2 : ℝ) ^ n := by
  subst h; exact Real.rpow_intCast 2 n

theorem pw_pos {k : ℕ} (h0 : k ≠ 0) (h : k < 255) : pw k = (((2 : ℝ) ^ ((k : ℤ) - 127) : ℝ) : EReal) := by
  unfold pw; rw [if_neg h0, if_pos h]

theorem exp2_coe (r : ℝ) : Ideal.exp2 (r : EReal) = ((Real.rpow 2 r : ℝ) : EReal) := rfl

/-- An exponent field strictly between the two extremes is not special. -/
theorem plain_wd (k : ℕ) (hz : k ≠ 0) (hk : k ≤ 252) : plain (wd k) = 0#1 := by
  have a1 : (wd k == 0#32) = false := by
    rw [beq_eq_false_iff_ne]; intro hh
    have := congrArg BitVec.toNat hh
    unfold wd at this; rw [BitVec.toNat_ofNat] at this; simp at this; omega
  have a2 : (wd k == 2139095040#32) = false := by
    rw [beq_eq_false_iff_ne]; intro hh
    have := congrArg BitVec.toNat hh
    unfold wd at this; rw [BitVec.toNat_ofNat] at this; simp at this; omega
  show BitVec.ofBool (wd k == 0#32) ||| BitVec.ofBool (wd k == 2139095040#32) = _
  rw [a1, a2]; rfl

/-- Below `2^126` the kernel's scale and multiplier are `2^e` and `2^(-e)` for the exponent field's `e`. -/
theorem kernel_spec (t : EReal) (h0 : 0 ≤ t) (h1 : t < pw 253) :
    ∃ k, k ≤ 252 ∧ pw k ≤ t ∧ t < pw (k + 1) ∧ kScale t = Ideal.exp2 (rexp k : EReal) ∧ kInv t = Ideal.exp2 (((-rexp k : ℝ)) : EReal) := by
  have ht : t < ⊤ := lt_of_lt_of_le h1 le_top
  obtain ⟨k, -, e, l, u⟩ := search_spec t h0 ht
  have hk : k ≤ 252 := by
    by_contra hc
    exact absurd (lt_of_lt_of_le h1 (pw_mono (show 253 ≤ k by omega))) (not_lt.mpr l)
  refine ⟨k, hk, l, u, ?_, ?_⟩
  · unfold kScale
    rw [e]
    by_cases hz : k = 0
    · subst hz
      rw [show plain (wd 0) = 1#1 from by decide, select_one, ofBits_one_f32, exp2_coe]
      simp [rexp]
    · rw [plain_wd k hz hk, select_zero, show (8388608#32) = wd 1 from rfl, addi_wd, ofBits_wd _ (by omega),
        pw_pos (by omega) (by omega), exp2_coe, rpow_int _ ((k : ℤ) - 126) (by simp [rexp, hz])]
      congr 2; push_cast; ring
  · unfold kInv
    rw [e]
    by_cases hz : k = 0
    · subst hz
      rw [show plain (wd 0) = 1#1 from by decide, select_one, ofBits_one_f32, exp2_coe]
      simp [rexp]
    · have : IntOp.subi 2122317824#32 (wd k) = wd (253 - k) := by
        apply BitVec.eq_of_toNat_eq
        unfold IntOp.subi wd
        rw [BitVec.toNat_sub, BitVec.toNat_ofNat, BitVec.toNat_ofNat, BitVec.toNat_ofNat]; omega
      rw [plain_wd k hz hk, select_zero, this, ofBits_wd _ (by omega), pw_pos (by omega) (by omega), exp2_coe,
        rpow_int _ (126 - (k : ℤ)) (by simp [rexp, hz])]
      congr 2; push_cast [show k ≤ 253 by omega]; ring

/-- The reference's exponent, from its list of candidate exponents `kv`. -/
def refE (kv : Fin 254 → EReal) (t : EReal) : EReal :=
  Scalar.select (FloatOps.cmpf (F := Ideal) (φ := .f32) .olt t (Ideal.ofBits .f32 0x00800000#32)) (Ideal.ofBits .f32 0x00000000#32)
    (Finset.univ.fold min ⊤ (fun j : Fin 254 =>
      Scalar.select (FloatOps.cmpf (F := Ideal) (φ := .f32) .olt t (Ideal.pow (Ideal.ofBits .f32 0x40000000#32) (kv j)))
        (kv j) (Ideal.ofBits .f32 0x43000000#32)))

theorem ofBits_two : Ideal.ofBits .f32 0x40000000#32 = ((2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem select_lt (a b : EReal) {α : Type} (x y : α) :
    Scalar.select (FloatOps.cmpf (F := Ideal) (φ := .f32) .olt a b) x y = if a < b then x else y := by
  show (if BitVec.ofBool (decide (a < b)) = 1 then _ else _) = _
  by_cases h : a < b
  · rw [decide_eq_true h, if_pos h]; rfl
  · rw [decide_eq_false h, if_neg h]; rfl

/-- The reference's exponent is the same `e`. -/
theorem refE_spec (kv : Fin 254 → EReal) (hkv : ∀ j, kv j = (((j.val : ℝ) - 125 : ℝ) : EReal)) (t : EReal) (k : ℕ) (hk : k ≤ 252)
    (l : pw k ≤ t) (u : t < pw (k + 1)) : refE kv t = (rexp k : EReal) := by
  unfold refE
  rw [show (0x00800000#32) = wd 1 from rfl, ofBits_wd 1 (by norm_num), select_lt, ofBits_zero_f32]
  by_cases hz : k = 0
  · subst hz
    rw [if_pos u]; simp [rexp]
  · rw [if_neg (not_lt.mpr ((pw_mono (by omega)).trans l))]
    have key : ∀ j : Fin 254, Scalar.select (FloatOps.cmpf (F := Ideal) (φ := .f32) .olt t (Ideal.pow (Ideal.ofBits .f32 0x40000000#32) (kv j)))
        (kv j) (Ideal.ofBits .f32 0x43000000#32) = if k - 1 ≤ j.val then (((j.val : ℝ) - 125 : ℝ) : EReal) else ((128 : ℝ) : EReal) := by
      intro j
      rw [select_lt, ofBits_128, ofBits_two, hkv j]
      have hpow : Ideal.pow ((2 : ℝ) : EReal) (((j.val : ℝ) - 125 : ℝ) : EReal) = (((2 : ℝ) ^ ((j.val : ℤ) - 125) : ℝ) : EReal) := by
        show ((Real.rpow 2 _ : ℝ) : EReal) = _
        rw [rpow_int _ ((j.val : ℤ) - 125) (by push_cast; ring)]
      rw [hpow]
      have hj := j.isLt
      by_cases hj2 : k - 1 ≤ j.val
      · rw [if_pos hj2, if_pos]
        refine lt_of_lt_of_le u ?_
        rw [pw_pos (by omega) (by omega)]
        exact EReal.coe_le_coe_iff.mpr (zpow_le_zpow_right₀ (by norm_num) (by push_cast; omega))
      · rw [if_neg hj2, if_neg]
        rw [not_lt]
        refine le_trans ?_ l
        rw [pw_pos (by omega) (by omega)]
        exact EReal.coe_le_coe_iff.mpr (zpow_le_zpow_right₀ (by norm_num) (by omega))
    rw [Finset.fold_congr (fun j _ => key j)]
    have hre : (rexp k : ℝ) = (k : ℝ) - 126 := by simp [rexp, hz]
    rw [hre]
    apply le_antisymm
    · rw [Finset.fold_min_le]
      refine Or.inr ⟨⟨k - 1, by omega⟩, Finset.mem_univ _, ?_⟩
      rw [if_pos (le_refl _)]
      apply EReal.coe_le_coe_iff.mpr
      have : ((k - 1 : ℕ) : ℝ) = (k : ℝ) - 1 := by push_cast [show 1 ≤ k by omega]; ring
      simp only [this]; linarith
    · rw [Finset.le_fold_min]
      refine ⟨le_top, fun j _ => ?_⟩
      split_ifs with hj
      · apply EReal.coe_le_coe_iff.mpr
        have : (k : ℝ) ≤ (j.val : ℝ) + 1 := by exact_mod_cast (by omega : k ≤ j.val + 1)
        linarith
      · apply EReal.coe_le_coe_iff.mpr
        have : (k : ℝ) ≤ 252 := by exact_mod_cast hk
        linarith

/-- The kernel's scale is the reference's `2^e`, and its multiplier is the reference's `2^(0 - e)`. -/
theorem kernel_eq_ref (kv : Fin 254 → EReal) (hkv : ∀ j, kv j = (((j.val : ℝ) - 125 : ℝ) : EReal)) (t : EReal) (h0 : 0 ≤ t)
    (h1 : t < pw 253) :
    kScale t = Ideal.exp2 (refE kv t) ∧ kInv t = Ideal.exp2 (Ideal.ofBits .f32 0x00000000#32 - refE kv t) := by
  obtain ⟨k, hk, l, u, hs, hi⟩ := kernel_spec t h0 h1
  rw [refE_spec kv hkv t k hk l u, ofBits_zero_f32, zero_sub, hs, hi, ← EReal.coe_neg]
  exact ⟨rfl, rfl⟩

/-! ### One group of 128 values -/

/-- A group's largest magnitude over the largest code. -/
def tOf (row : Fin 128 → EReal) : EReal :=
  (Finset.univ : Finset (Fin 128)).fold max (Ideal.ofBits .f32 0xFF800000#32) (fun k => max (row k) (-row k)) * Ideal.ofBits .f32 0x3B124925#32

/-- A value times a multiplier, clipped to the codes' range. -/
def clip (x inv : EReal) : EReal := min (Ideal.ofBits .f32 0x43E00000#32) (max (Ideal.ofBits .f32 0xC3E00000#32) (x * inv))

/-- A group's `j`th code, as the kernel computes it. -/
def codeOf (row : Fin 128 → EReal) (j : Fin 128) : EReal := clip (row j) (kInv (tOf row))

/-- A group's `j`th dequantised value, as the kernel computes it. -/
def xaOf (row : Fin 128 → EReal) (j : Fin 128) : EReal := codeOf row j * kScale (tOf row)

/-- A group rotated by the kernel: the pair's 256 values against column `c` of the rotation, then scaled. -/
def rotOf (xs : Fin 256 → EReal) (col : Fin 256 → EReal) : EReal := (∑ k : Fin 256, xs k * col k) * Ideal.ofBits .f32 0x3DB504F3#32

end Cert.Quant
-- ==== Proof.BlockV.lean ====
/-
  One 128-row, 128-column piece of what the first kernel stores, as vector operations: the piece's rotated values `v`, its
  quantiser, its dequantised values, and the packing of sixteen columns of scales.
-/
module

public import proofs.«01_k».proof.Proof.Gen.KernelIdeal.Frame
public import Idealize.ShloMosaic.PureOps
public import Idealize.ShloMosaic.Lib.MatmulPlain
public import Idealize.ShloMosaic.Lib.ValueLayout
public import Idealize.ShloMosaic.Lib.ValueLayoutCasts
public import Idealize.ShloMosaic.Lib.Pipeline.Value
public import proofs.«01_k».proof.Proof.Quant
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Cert.Quant

/-- The product of a 128 × 256 block with the 256 × 256 rotation. -/
def rotV (x : Vec Ideal S128x256 .bf16) (h : Vec Ideal S256x256 .bf16) : FVec Ideal S128x256 .f32 :=
  matmul (φ₁ := .bf16) (φ₂ := .bf16) dot_S128x256_S256x256_S128x256_1_0_0_1_n_n none (shapeCast S128x256 x shapeCasts_S128x256_S128x256)
    h (constant S128x256 .f32 0x00000000#32)

/-- The left half of a product, scaled. -/
def leftV (u : FVec Ideal S128x256 .f32) : FVec Ideal S128x128 .f32 :=
  mulf (extractStridedSlice S128x128 ![0, 0] u slices_S128x256_o0_0_S128x128) (broadcast S128x128 (Scalar.ofBits .f32 0x3DB504F3#32))

/-- The right half of a product, scaled. -/
def rightV (u : FVec Ideal S128x256 .f32) : FVec Ideal S128x128 .f32 :=
  mulf (extractStridedSlice S128x128 ![0, 128] u slices_S128x256_o0_128_S128x128) (broadcast S128x128 (Scalar.ofBits .f32 0x3DB504F3#32))

/-- Each row's largest magnitude over the largest code. -/
def tmaxV (v : FVec Ideal S128x128 .f32) : FVec Ideal S128x1 .f32 :=
  mulf (shapeCast S128x1 (multiReduction .maximumf [1] S128 (absf v) 0xFF800000#32 reduces_S128x128_S128 (.inl rfl) rfl) shapeCasts_S128_S128x1)
    (broadcast S128x1 (Scalar.ofBits .f32 0x3B124925#32))

/-- One step of the exponent search. -/
def stepV (t : FVec Ideal S128x1 .f32) (bit : BitVec 32) (e : IVec S128x1 32) : IVec S128x1 32 :=
  select (cmpf .oge t (bitcastToFloat .f32 (addi e (broadcast S128x1 bit)))) (addi e (broadcast S128x1 bit)) e

/-- The exponent search. -/
def expV (t : FVec Ideal S128x1 .f32) : IVec S128x1 32 :=
  stepV t 8388608#32 (stepV t 16777216#32 (stepV t 33554432#32 (stepV t 67108864#32 (stepV t 134217728#32
    (stepV t 268435456#32 (stepV t 536870912#32 (stepV t 1073741824#32 (broadcast S128x1 0#32))))))))

/-- Whether the exponent is zero or all ones. -/
def plainV (e : IVec S128x1 32) : IVec S128x1 1 :=
  ori (cmpi .eq e (broadcast S128x1 0#32)) (cmpi .eq e (broadcast S128x1 2139095040#32))

/-- The multiplier, from the exponent. -/
def invV (e : IVec S128x1 32) : FVec Ideal S128x1 .f32 :=
  select (plainV e) (broadcast S128x1 (Scalar.ofBits .f32 0x3F800000#32)) (bitcastToFloat .f32 (subi (broadcast S128x1 2122317824#32) e))

/-- The scale, from the exponent. -/
def scaleV (e : IVec S128x1 32) : FVec Ideal S128x1 .f32 :=
  select (plainV e) (broadcast S128x1 (Scalar.ofBits .f32 0x3F800000#32)) (bitcastToFloat .f32 (addi e (broadcast S128x1 8388608#32)))

/-- The codes of a piece. -/
def codesV (v : FVec Ideal S128x128 .f32) : FVec Ideal S128x128 .fp8e4m3 :=
  truncf .fp8e4m3 (minimumf (broadcast S128x128 (Scalar.ofBits .f32 0x43E00000#32))
    (maximumf (broadcast S128x128 (Scalar.ofBits .f32 0xC3E00000#32))
      (mulf v (broadcastTo S128x128 (invV (expV (tmaxV v))) broadcasts_S128x1_S128x128)))) bitsLt_fp8e4m3_f32

/-- The scale of each row of a piece, in every column. -/
def fullV (v : FVec Ideal S128x128 .f32) : FVec Ideal S128x128 .f32 :=
  broadcastTo S128x128 (shapeCast S128x1 (scaleV (expV (tmaxV v))) shapeCasts_S128x1_S128x1) broadcasts_S128x1_S128x128

/-- The dequantised values of a piece. -/
def xaV (v : FVec Ideal S128x128 .f32) : FVec Ideal S128x128 .bf16 :=
  mulf (extf .bf16 (codesV v) bitsLt_fp8e4m3_bf16) (truncf .bf16 (fullV v) bitsLt_bf16_f32)

/-- Sixteen scales, one per column, chosen in by the column's number. -/
def packV (g : BitVec 32) (full packed : FVec Ideal S128x128 .f32) : FVec Ideal S128x128 .f32 :=
  select (cmpi .eq (iota .tc S128x128 32 [1] iota_S128x128_d1_w32) (broadcast S128x128 g)) full packed

/-- The packed scales, transposed and cut to sixteen rows. -/
def storeV (packed : FVec Ideal S128x128 .f32) : FVec Ideal S1x16x128 .f32 :=
  shapeCast S1x16x128 (extractStridedSlice S16x128 ![0, 0] (transpose S128x128 [1, 0] packed transposes_S128x128_p1_0_S128x128)
    slices_S128x128_o0_0_S16x128) shapeCasts_S16x128_S1x16x128

/-! ### Each of them at an index -/

theorem rotV_apply (x : Vec Ideal S128x256 .bf16) (h : Vec Ideal S256x256 .bf16) (i : Fin 128) (c : Fin 256) :
    rotV x h (ix2 i c) = ∑ k : Fin 256, (x (ix2 i k) : EReal) * h (ix2 k c) := by
  unfold rotV
  rw [shapeCast_self]
  refine (Ideal.matmul_plain_apply (M := 128) (K := 256) (N := 256) (φ₁ := .bf16) (φ₂ := .bf16) none x h _ i c).trans ?_
  show Ideal.ofBits .f32 0x00000000#32 + _ = _
  rw [Ideal.ofBits_zero_f32, zero_add]

theorem leftV_apply (u : FVec Ideal S128x256 .f32) (i j : Fin 128) :
    leftV u (ix2 i j) = (u (ix2 i ⟨j.val, by omega⟩) : EReal) * Ideal.ofBits .f32 0x3DB504F3#32 := by
  unfold leftV
  rw [mulf_apply, slice2_axis1_apply 0 u _ i j ⟨j.val, by omega⟩ (by simp)]
  rfl

theorem rightV_apply (u : FVec Ideal S128x256 .f32) (i j : Fin 128) :
    rightV u (ix2 i j) = (u (ix2 i ⟨128 + j.val, by omega⟩) : EReal) * Ideal.ofBits .f32 0x3DB504F3#32 := by
  unfold rightV
  rw [mulf_apply, slice2_axis1_apply 128 u _ i j ⟨128 + j.val, by omega⟩ (by simp)]
  rfl

theorem tmaxV_apply (v : FVec Ideal S128x128 .f32) (i : Fin 128) (u : Fin 1) :
    tmaxV v (ix2 i u) = tOf (fun k => v (ix2 i k)) := by
  unfold tmaxV tOf
  rw [mulf_apply, shapeCast_a_a1_apply]
  have e : (absf v ∘ reduces_S128x128_S128.lift (ix1 i) : Fin 128 → EReal) = fun k => max (v (ix2 i k)) (-v (ix2 i k)) := by
    funext k
    have : reduces_S128x128_S128.lift (ix1 i) k = ix2 i k := by
      funext a; match a with | ⟨0, _⟩ => rfl | ⟨1, _⟩ => rfl
    show absf v _ = _
    rw [this]; rfl
  refine congrArg (· * Ideal.ofBits .f32 0x3B124925#32) ((Ideal.multiReduction_maximumf_single _ _ _ _ _ _).trans ?_)
  exact (congrArg (Finset.fold max (Ideal.ofBits .f32 0xFF800000#32) · Finset.univ) e)

theorem stepV_apply (t : FVec Ideal S128x1 .f32) (bit : BitVec 32) (e : IVec S128x1 32) (i : S128x1.Idx) :
    stepV t bit e i = step (t i) bit (e i) := by
  unfold stepV step; rfl

theorem expV_apply (t : FVec Ideal S128x1 .f32) (i : S128x1.Idx) : expV t i = search (t i) := by
  unfold expV search
  simp only [stepV_apply, broadcast_apply]

theorem plainV_apply (e : IVec S128x1 32) (i : S128x1.Idx) : plainV e i = plain (e i) := by
  unfold plainV plain; rfl

theorem invV_apply (t : FVec Ideal S128x1 .f32) (i : S128x1.Idx) : invV (expV t) i = kInv (t i) := by
  unfold invV kInv
  rw [select_apply, plainV_apply, ← expV_apply]
  rfl

theorem scaleV_apply (t : FVec Ideal S128x1 .f32) (i : S128x1.Idx) : scaleV (expV t) i = kScale (t i) := by
  unfold scaleV kScale
  rw [select_apply, plainV_apply, ← expV_apply]
  rfl

/-- A column spread over 128 columns reads the column. -/
theorem spread_apply {α : Type} (x : S128x1.Idx → α) (i j : Fin 128) :
    broadcastTo S128x128 x broadcasts_S128x1_S128x128 (ix2 i j) = x (ix2 i 0) :=
  broadcastTo_apply x _ _ _ fun a => match a with | ⟨0, _⟩ => rfl | ⟨1, _⟩ => rfl

theorem codesV_apply (v : FVec Ideal S128x128 .f32) (i j : Fin 128) : codesV v (ix2 i j) = codeOf (fun k => v (ix2 i k)) j := by
  unfold codesV codeOf clip
  rw [truncf_apply, minimumf_apply, maximumf_apply, mulf_apply, spread_apply, invV_apply, tmaxV_apply]
  rfl

theorem fullV_apply (v : FVec Ideal S128x128 .f32) (i j : Fin 128) : fullV v (ix2 i j) = kScale (tOf (fun k => v (ix2 i k))) := by
  unfold fullV
  rw [spread_apply, shapeCast_self, scaleV_apply, tmaxV_apply]

theorem xaV_apply (v : FVec Ideal S128x128 .f32) (i j : Fin 128) : xaV v (ix2 i j) = xaOf (fun k => v (ix2 i k)) j := by
  unfold xaV xaOf
  rw [mulf_apply, extf_apply, truncf_apply, codesV_apply, fullV_apply]

/-- The scale of row `i` of the sixteen pieces whose full scales are `f 0`, …, chosen in up to column `n`. -/
def packN (f : ℕ → FVec Ideal S128x128 .f32) : ℕ → FVec Ideal S128x128 .f32
  | 0 => broadcast S128x128 (Scalar.ofBits .f32 0x00000000#32)
  | n + 1 => packV (BitVec.ofNat 32 n) (f n) (packN f n)

/-- Column `g` of the packed scales is piece `g`'s. -/
theorem packN_apply (f : ℕ → FVec Ideal S128x128 .f32) (i g : Fin 128) :
    ∀ n, n ≤ 128 → g.val < n → packN f n (ix2 i g) = f g.val (ix2 i g)
  | 0, _, h => absurd h (Nat.not_lt_zero _)
  | n + 1, hn, h => by
    show Scalar.select (IntOp.cmpi .eq (iota .tc S128x128 32 [1] iota_S128x128_d1_w32 (ix2 i g)) (BitVec.ofNat 32 n)) _ _ = _
    rw [iota_single_apply]
    show Scalar.select (BitVec.ofBool (BitVec.ofNat 32 g.val == BitVec.ofNat 32 n)) _ _ = _
    by_cases hg : g.val = n
    · rw [hg]; simp [Scalar.select]
    · have : (BitVec.ofNat 32 g.val == BitVec.ofNat 32 n) = false := by
        rw [beq_eq_false_iff_ne]; intro hh
        have := congrArg BitVec.toNat hh
        rw [BitVec.toNat_ofNat, BitVec.toNat_ofNat] at this
        have := g.isLt; omega
      rw [this]
      exact packN_apply f i g n (by omega) (by omega)

theorem storeV_apply (p : FVec Ideal S128x128 .f32) (z : Fin 1) (g : Fin 16) (i : Fin 128) :
    storeV p (ix3 z g i) = p (ix2 i ⟨g.val, by omega⟩) := by
  unfold storeV
  have hz : z = 0 := by omega
  subst hz
  rw [shapeCast_ab_1ab_apply, slice2_axis0_apply 0 _ _ g i ⟨g.val, by omega⟩ (by simp), transpose_ix2_apply]

end Cert.KernelIdeal.Hand

end
-- ==== Proof.Block.lean ====
/-
  What one block of the first kernel's outputs holds, index by index: the codes, the scales (transposed) and the
  dequantised values of the block's 256 rows and sixteen 128-column groups.
-/
module

public import proofs.«01_k».proof.Proof.BlockV

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Cert.Quant

/-- Row `i`, group `g` of a block, rotated. -/
def rowB (x0 : Vec Ideal S256x2048 .bf16) (x1 : Vec Ideal S256x256 .bf16) (i : Fin 256) (g : Fin 16) (j : Fin 128) : EReal :=
  rotOf (fun k => x0 (ix2 i ⟨256 * (g.val / 2) + k.val, by omega⟩)) (fun k => x1 (ix2 k ⟨128 * (g.val % 2) + j.val, by omega⟩))

/-- The group's function `Q` at an element of the block. -/
def atB (Q : (Fin 128 → EReal) → Fin 128 → EReal) (x0 : Vec Ideal S256x2048 .bf16) (x1 : Vec Ideal S256x256 .bf16)
    (y : S256x2048.Idx) : EReal :=
  Q (rowB x0 x1 (y 0) ⟨(y 1).val / 128, by have := (y 1).isLt; simp at this; omega⟩) ⟨(y 1).val % 128, by omega⟩

/-- The left half of the product of the 256 columns at `co`, rows from `ro`. -/
theorem left_row (x0 : Vec Ideal S256x2048 .bf16) (x1 : Vec Ideal S256x256 .bf16) (r p : ℕ) (hr : r < 2) (hp : p < 8)
    (inb : ∀ a, (![128 * r, 256 * p] : Fin 2 → ℕ) a + S128x256.size a ≤ S256x2048.size a) (i j : Fin 128) :
    leftV (rotV (View.ld x0 (Rect.unit (s := S256x2048) ![128 * r, 256 * p] S128x256.size inb)) (View.ld x1 r0_1)) (ix2 i j)
      = rowB x0 x1 ⟨128 * r + i.val, by omega⟩ ⟨2 * p, by omega⟩ j := by
  rw [leftV_apply, rotV_apply]
  unfold rowB rotOf
  refine congrArg (· * Ideal.ofBits .f32 0x3DB504F3#32) (Finset.sum_congr rfl fun k _ => ?_)
  refine congrArg₂ (· * ·) (congrArg x0 ?_) (congrArg x1 ?_)
  · refine Shape.idx_ext₂ (by show 128 * r + 1 * i.val = _; simp) ?_
    show 256 * p + 1 * k.val = 256 * (2 * p / 2) + k.val
    omega
  · refine Shape.idx_ext₂ (by show 0 + 1 * k.val = _; simp) ?_
    show 0 + 1 * j.val = 128 * (2 * p % 2) + j.val
    omega

/-- The right half likewise. -/
theorem right_row (x0 : Vec Ideal S256x2048 .bf16) (x1 : Vec Ideal S256x256 .bf16) (r p : ℕ) (hr : r < 2) (hp : p < 8)
    (inb : ∀ a, (![128 * r, 256 * p] : Fin 2 → ℕ) a + S128x256.size a ≤ S256x2048.size a) (i j : Fin 128) :
    rightV (rotV (View.ld x0 (Rect.unit (s := S256x2048) ![128 * r, 256 * p] S128x256.size inb)) (View.ld x1 r0_1)) (ix2 i j)
      = rowB x0 x1 ⟨128 * r + i.val, by omega⟩ ⟨2 * p + 1, by omega⟩ j := by
  rw [rightV_apply, rotV_apply]
  unfold rowB rotOf
  refine congrArg (· * Ideal.ofBits .f32 0x3DB504F3#32) (Finset.sum_congr rfl fun k _ => ?_)
  refine congrArg₂ (· * ·) (congrArg x0 ?_) (congrArg x1 ?_)
  · refine Shape.idx_ext₂ (by show 128 * r + 1 * i.val = _; simp) ?_
    show 256 * p + 1 * k.val = 256 * ((2 * p + 1) / 2) + k.val
    omega
  · refine Shape.idx_ext₂ (by show 0 + 1 * k.val = _; simp) ?_
    show 0 + 1 * (128 + j.val) = 128 * ((2 * p + 1) % 2) + j.val
    omega

/-- A stored piece holds the group's function at every element of its rectangle, whenever its values are rows of group `g`. -/
theorem piece_of_row {φ : FTy} (Q : (Fin 128 → EReal) → Fin 128 → EReal) (qV : FVec Ideal S128x128 .f32 → FVec Ideal S128x128 φ)
    (hQ : ∀ v i j, qV v (ix2 i j) = Q (fun k => v (ix2 i k)) j)
    (x0 : Vec Ideal S256x2048 .bf16) (x1 : Vec Ideal S256x256 .bf16) (v : FVec Ideal S128x128 .f32) (r g : ℕ) (hr : r < 2) (hg : g < 16)
    (hv : ∀ i j, v (ix2 i j) = rowB x0 x1 ⟨128 * r + i.val, by omega⟩ ⟨g, hg⟩ j)
    (inb : ∀ a, (![128 * r, 128 * g] : Fin 2 → ℕ) a + S128x128.size a ≤ S256x2048.size a) (x : S128x128.Idx) :
    qV v x = atB Q x0 x1 ((Rect.unit (s := S256x2048) ![128 * r, 128 * g] S128x128.size inb).emb x) := by
  obtain ⟨i, j, rfl⟩ : ∃ i j, x = ix2 i j := ⟨_, _, eq_ix2 x⟩
  rw [hQ]
  unfold atB
  have e0 : ((Rect.unit (s := S256x2048) ![128 * r, 128 * g] S128x128.size inb).emb (ix2 i j) 0).val = 128 * r + i.val := by
    show 128 * r + 1 * i.val = _; omega
  have e1 : ((Rect.unit (s := S256x2048) ![128 * r, 128 * g] S128x128.size inb).emb (ix2 i j) 1).val = 128 * g + j.val := by
    show 128 * g + 1 * j.val = _; omega
  have ej : j.val < 128 := j.isLt
  have hrow : (fun k => v (ix2 i k)) = rowB x0 x1 ((Rect.unit (s := S256x2048) ![128 * r, 128 * g] S128x128.size inb).emb (ix2 i j) 0)
      ⟨((Rect.unit (s := S256x2048) ![128 * r, 128 * g] S128x128.size inb).emb (ix2 i j) 1).val / 128, by omega⟩ := by
    funext k
    rw [hv]
    congr 1
    · exact Fin.ext e0.symm
    · exact Fin.ext (by dsimp only; rw [e1]; omega)
  rw [← hrow]
  congr 1
  exact Fin.ext (by dsimp only; rw [e1]; omega)

/-- A left piece. -/
theorem left_piece {φ : FTy} (Q : (Fin 128 → EReal) → Fin 128 → EReal) (qV : FVec Ideal S128x128 .f32 → FVec Ideal S128x128 φ)
    (hQ : ∀ v i j, qV v (ix2 i j) = Q (fun k => v (ix2 i k)) j)
    (x0 : Vec Ideal S256x2048 .bf16) (x1 : Vec Ideal S256x256 .bf16) (r p : ℕ) (hr : r < 2) (hp : p < 8)
    (inb : ∀ a, (![128 * r, 256 * p] : Fin 2 → ℕ) a + S128x256.size a ≤ S256x2048.size a)
    (inb' : ∀ a, (![128 * r, 128 * (2 * p)] : Fin 2 → ℕ) a + S128x128.size a ≤ S256x2048.size a) (x : S128x128.Idx) :
    qV (leftV (rotV (View.ld x0 (Rect.unit (s := S256x2048) ![128 * r, 256 * p] S128x256.size inb)) (View.ld x1 r0_1))) x
      = atB Q x0 x1 ((Rect.unit (s := S256x2048) ![128 * r, 128 * (2 * p)] S128x128.size inb').emb x) :=
  piece_of_row Q qV hQ x0 x1 _ r (2 * p) hr (by omega) (left_row x0 x1 r p hr hp inb) inb' x

/-- A right piece. -/
theorem right_piece {φ : FTy} (Q : (Fin 128 → EReal) → Fin 128 → EReal) (qV : FVec Ideal S128x128 .f32 → FVec Ideal S128x128 φ)
    (hQ : ∀ v i j, qV v (ix2 i j) = Q (fun k => v (ix2 i k)) j)
    (x0 : Vec Ideal S256x2048 .bf16) (x1 : Vec Ideal S256x256 .bf16) (r p : ℕ) (hr : r < 2) (hp : p < 8)
    (inb : ∀ a, (![128 * r, 256 * p] : Fin 2 → ℕ) a + S128x256.size a ≤ S256x2048.size a)
    (inb' : ∀ a, (![128 * r, 128 * (2 * p + 1)] : Fin 2 → ℕ) a + S128x128.size a ≤ S256x2048.size a) (x : S128x128.Idx) :
    qV (rightV (rotV (View.ld x0 (Rect.unit (s := S256x2048) ![128 * r, 256 * p] S128x256.size inb)) (View.ld x1 r0_1))) x
      = atB Q x0 x1 ((Rect.unit (s := S256x2048) ![128 * r, 128 * (2 * p + 1)] S128x128.size inb').emb x) :=
  piece_of_row Q qV hQ x0 x1 _ r (2 * p + 1) hr (by omega) (right_row x0 x1 r p hr hp inb) inb' x

/-- The block of codes: at every element the group's codes. -/
theorem out0_2_apply (x0 : Vec Ideal S256x2048 .bf16) (x1 : Vec Ideal S256x256 .bf16) (y : S256x2048.Idx) :
    out0_2 (F := Ideal) x0 x1 y = atB codeOf x0 x1 y := by
  unfold out0_2
  refine View.canon_apply_of_pieces (Val := Elt Ideal) (e := .fp8e4m3) (atB codeOf x0 x1) _ ?_ y (cover0_2 (F := Ideal) _ _ _ _ _ _ _ _ _ _ _ _ _ _ _ _ _ _ _ _ _ _ _ _ _ _ _ _ _ _ _ _ y)
  exact
    List.forall_mem_cons.mpr ⟨right_piece codeOf codesV codesV_apply x0 x1 1 7 (by decide) (by decide) inb_S256x2048_S128x256_128_1792 inb_S256x2048_S128x128_128_1920,
    List.forall_mem_cons.mpr ⟨left_piece codeOf codesV codesV_apply x0 x1 1 7 (by decide) (by decide) inb_S256x2048_S128x256_128_1792 inb_S256x2048_S128x128_128_1792,
    List.forall_mem_cons.mpr ⟨right_piece codeOf codesV codesV_apply x0 x1 1 6 (by decide) (by decide) inb_S256x2048_S128x256_128_1536 inb_S256x2048_S128x128_128_1664,
    List.forall_mem_cons.mpr ⟨left_piece codeOf codesV codesV_apply x0 x1 1 6 (by decide) (by decide) inb_S256x2048_S128x256_128_1536 inb_S256x2048_S128x128_128_1536,
    List.forall_mem_cons.mpr ⟨right_piece codeOf codesV codesV_apply x0 x1 1 5 (by decide) (by decide) inb_S256x2048_S128x256_128_1280 inb_S256x2048_S128x128_128_1408,
    List.forall_mem_cons.mpr ⟨left_piece codeOf codesV codesV_apply x0 x1 1 5 (by decide) (by decide) inb_S256x2048_S128x256_128_1280 inb_S256x2048_S128x128_128_1280,
    List.forall_mem_cons.mpr ⟨right_piece codeOf codesV codesV_apply x0 x1 1 4 (by decide) (by decide) inb_S256x2048_S128x256_128_1024 inb_S256x2048_S128x128_128_1152,
    List.forall_mem_cons.mpr ⟨left_piece codeOf codesV codesV_apply x0 x1 1 4 (by decide) (by decide) inb_S256x2048_S128x256_128_1024 inb_S256x2048_S128x128_128_1024,
    List.forall_mem_cons.mpr ⟨right_piece codeOf codesV codesV_apply x0 x1 1 3 (by decide) (by decide) inb_S256x2048_S128x256_128_768 inb_S256x2048_S128x128_128_896,
    List.forall_mem_cons.mpr ⟨left_piece codeOf codesV codesV_apply x0 x1 1 3 (by decide) (by decide) inb_S256x2048_S128x256_128_768 inb_S256x2048_S128x128_128_768,
    List.forall_mem_cons.mpr ⟨right_piece codeOf codesV codesV_apply x0 x1 1 2 (by decide) (by decide) inb_S256x2048_S128x256_128_512 inb_S256x2048_S128x128_128_640,
    List.forall_mem_cons.mpr ⟨left_piece codeOf codesV codesV_apply x0 x1 1 2 (by decide) (by decide) inb_S256x2048_S128x256_128_512 inb_S256x2048_S128x128_128_512,
    List.forall_mem_cons.mpr ⟨right_piece codeOf codesV codesV_apply x0 x1 1 1 (by decide) (by decide) inb_S256x2048_S128x256_128_256 inb_S256x2048_S128x128_128_384,
    List.forall_mem_cons.mpr ⟨left_piece codeOf codesV codesV_apply x0 x1 1 1 (by decide) (by decide) inb_S256x2048_S128x256_128_256 inb_S256x2048_S128x128_128_256,
    List.forall_mem_cons.mpr ⟨right_piece codeOf codesV codesV_apply x0 x1 1 0 (by decide) (by decide) inb_S256x2048_S128x256_128_0 inb_S256x2048_S128x128_128_128,
    List.forall_mem_cons.mpr ⟨left_piece codeOf codesV codesV_apply x0 x1 1 0 (by decide) (by decide) inb_S256x2048_S128x256_128_0 inb_S256x2048_S128x128_128_0,
    List.forall_mem_cons.mpr ⟨right_piece codeOf codesV codesV_apply x0 x1 0 7 (by decide) (by decide) inb_S256x2048_S128x256_0_1792 inb_S256x2048_S128x128_0_1920,
    List.forall_mem_cons.mpr ⟨left_piece codeOf codesV codesV_apply x0 x1 0 7 (by decide) (by decide) inb_S256x2048_S128x256_0_1792 inb_S256x2048_S128x128_0_1792,
    List.forall_mem_cons.mpr ⟨right_piece codeOf codesV codesV_apply x0 x1 0 6 (by decide) (by decide) inb_S256x2048_S128x256_0_1536 inb_S256x2048_S128x128_0_1664,
    List.forall_mem_cons.mpr ⟨left_piece codeOf codesV codesV_apply x0 x1 0 6 (by decide) (by decide) inb_S256x2048_S128x256_0_1536 inb_S256x2048_S128x128_0_1536,
    List.forall_mem_cons.mpr ⟨right_piece codeOf codesV codesV_apply x0 x1 0 5 (by decide) (by decide) inb_S256x2048_S128x256_0_1280 inb_S256x2048_S128x128_0_1408,
    List.forall_mem_cons.mpr ⟨left_piece codeOf codesV codesV_apply x0 x1 0 5 (by decide) (by decide) inb_S256x2048_S128x256_0_1280 inb_S256x2048_S128x128_0_1280,
    List.forall_mem_cons.mpr ⟨right_piece codeOf codesV codesV_apply x0 x1 0 4 (by decide) (by decide) inb_S256x2048_S128x256_0_1024 inb_S256x2048_S128x128_0_1152,
    List.forall_mem_cons.mpr ⟨left_piece codeOf codesV codesV_apply x0 x1 0 4 (by decide) (by decide) inb_S256x2048_S128x256_0_1024 inb_S256x2048_S128x128_0_1024,
    List.forall_mem_cons.mpr ⟨right_piece codeOf codesV codesV_apply x0 x1 0 3 (by decide) (by decide) inb_S256x2048_S128x256_0_768 inb_S256x2048_S128x128_0_896,
    List.forall_mem_cons.mpr ⟨left_piece codeOf codesV codesV_apply x0 x1 0 3 (by decide) (by decide) inb_S256x2048_S128x256_0_768 inb_S256x2048_S128x128_0_768,
    List.forall_mem_cons.mpr ⟨right_piece codeOf codesV codesV_apply x0 x1 0 2 (by decide) (by decide) inb_S256x2048_S128x256_0_512 inb_S256x2048_S128x128_0_640,
    List.forall_mem_cons.mpr ⟨left_piece codeOf codesV codesV_apply x0 x1 0 2 (by decide) (by decide) inb_S256x2048_S128x256_0_512 inb_S256x2048_S128x128_0_512,
    List.forall_mem_cons.mpr ⟨right_piece codeOf codesV codesV_apply x0 x1 0 1 (by decide) (by decide) inb_S256x2048_S128x256_0_256 inb_S256x2048_S128x128_0_384,
    List.forall_mem_cons.mpr ⟨left_piece codeOf codesV codesV_apply x0 x1 0 1 (by decide) (by decide) inb_S256x2048_S128x256_0_256 inb_S256x2048_S128x128_0_256,
    List.forall_mem_cons.mpr ⟨right_piece codeOf codesV codesV_apply x0 x1 0 0 (by decide) (by decide) inb_S256x2048_S128x256_0_0 inb_S256x2048_S128x128_0_128,
    List.forall_mem_cons.mpr ⟨left_piece codeOf codesV codesV_apply x0 x1 0 0 (by decide) (by decide) inb_S256x2048_S128x256_0_0 inb_S256x2048_S128x128_0_0,
    List.forall_mem_nil _⟩⟩⟩⟩⟩⟩⟩⟩⟩⟩⟩⟩⟩⟩⟩⟩⟩⟩⟩⟩⟩⟩⟩⟩⟩⟩⟩⟩⟩⟩⟩⟩

/-- The block of dequantised values: at every element the group's dequantised values. -/
theorem out0_4_apply (x0 : Vec Ideal S256x2048 .bf16) (x1 : Vec Ideal S256x256 .bf16) (y : S256x2048.Idx) :
    out0_4 (F := Ideal) x0 x1 y = atB xaOf x0 x1 y := by
  unfold out0_4
  refine View.canon_apply_of_pieces (Val := Elt Ideal) (e := .bf16) (atB xaOf x0 x1) _ ?_ y (cover0_4 (F := Ideal) _ _ _ _ _ _ _ _ _ _ _ _ _ _ _ _ _ _ _ _ _ _ _ _ _ _ _ _ _ _ _ _ y)
  exact
    List.forall_mem_cons.mpr ⟨right_piece xaOf xaV xaV_apply x0 x1 1 7 (by decide) (by decide) inb_S256x2048_S128x256_128_1792 inb_S256x2048_S128x128_128_1920,
    List.forall_mem_cons.mpr ⟨left_piece xaOf xaV xaV_apply x0 x1 1 7 (by decide) (by decide) inb_S256x2048_S128x256_128_1792 inb_S256x2048_S128x128_128_1792,
    List.forall_mem_cons.mpr ⟨right_piece xaOf xaV xaV_apply x0 x1 1 6 (by decide) (by decide) inb_S256x2048_S128x256_128_1536 inb_S256x2048_S128x128_128_1664,
    List.forall_mem_cons.mpr ⟨left_piece xaOf xaV xaV_apply x0 x1 1 6 (by decide) (by decide) inb_S256x2048_S128x256_128_1536 inb_S256x2048_S128x128_128_1536,
    List.forall_mem_cons.mpr ⟨right_piece xaOf xaV xaV_apply x0 x1 1 5 (by decide) (by decide) inb_S256x2048_S128x256_128_1280 inb_S256x2048_S128x128_128_1408,
    List.forall_mem_cons.mpr ⟨left_piece xaOf xaV xaV_apply x0 x1 1 5 (by decide) (by decide) inb_S256x2048_S128x256_128_1280 inb_S256x2048_S128x128_128_1280,
    List.forall_mem_cons.mpr ⟨right_piece xaOf xaV xaV_apply x0 x1 1 4 (by decide) (by decide) inb_S256x2048_S128x256_128_1024 inb_S256x2048_S128x128_128_1152,
    List.forall_mem_cons.mpr ⟨left_piece xaOf xaV xaV_apply x0 x1 1 4 (by decide) (by decide) inb_S256x2048_S128x256_128_1024 inb_S256x2048_S128x128_128_1024,
    List.forall_mem_cons.mpr ⟨right_piece xaOf xaV xaV_apply x0 x1 1 3 (by decide) (by decide) inb_S256x2048_S128x256_128_768 inb_S256x2048_S128x128_128_896,
    List.forall_mem_cons.mpr ⟨left_piece xaOf xaV xaV_apply x0 x1 1 3 (by decide) (by decide) inb_S256x2048_S128x256_128_768 inb_S256x2048_S128x128_128_768,
    List.forall_mem_cons.mpr ⟨right_piece xaOf xaV xaV_apply x0 x1 1 2 (by decide) (by decide) inb_S256x2048_S128x256_128_512 inb_S256x2048_S128x128_128_640,
    List.forall_mem_cons.mpr ⟨left_piece xaOf xaV xaV_apply x0 x1 1 2 (by decide) (by decide) inb_S256x2048_S128x256_128_512 inb_S256x2048_S128x128_128_512,
    List.forall_mem_cons.mpr ⟨right_piece xaOf xaV xaV_apply x0 x1 1 1 (by decide) (by decide) inb_S256x2048_S128x256_128_256 inb_S256x2048_S128x128_128_384,
    List.forall_mem_cons.mpr ⟨left_piece xaOf xaV xaV_apply x0 x1 1 1 (by decide) (by decide) inb_S256x2048_S128x256_128_256 inb_S256x2048_S128x128_128_256,
    List.forall_mem_cons.mpr ⟨right_piece xaOf xaV xaV_apply x0 x1 1 0 (by decide) (by decide) inb_S256x2048_S128x256_128_0 inb_S256x2048_S128x128_128_128,
    List.forall_mem_cons.mpr ⟨left_piece xaOf xaV xaV_apply x0 x1 1 0 (by decide) (by decide) inb_S256x2048_S128x256_128_0 inb_S256x2048_S128x128_128_0,
    List.forall_mem_cons.mpr ⟨right_piece xaOf xaV xaV_apply x0 x1 0 7 (by decide) (by decide) inb_S256x2048_S128x256_0_1792 inb_S256x2048_S128x128_0_1920,
    List.forall_mem_cons.mpr ⟨left_piece xaOf xaV xaV_apply x0 x1 0 7 (by decide) (by decide) inb_S256x2048_S128x256_0_1792 inb_S256x2048_S128x128_0_1792,
    List.forall_mem_cons.mpr ⟨right_piece xaOf xaV xaV_apply x0 x1 0 6 (by decide) (by decide) inb_S256x2048_S128x256_0_1536 inb_S256x2048_S128x128_0_1664,
    List.forall_mem_cons.mpr ⟨left_piece xaOf xaV xaV_apply x0 x1 0 6 (by decide) (by decide) inb_S256x2048_S128x256_0_1536 inb_S256x2048_S128x128_0_1536,
    List.forall_mem_cons.mpr ⟨right_piece xaOf xaV xaV_apply x0 x1 0 5 (by decide) (by decide) inb_S256x2048_S128x256_0_1280 inb_S256x2048_S128x128_0_1408,
    List.forall_mem_cons.mpr ⟨left_piece xaOf xaV xaV_apply x0 x1 0 5 (by decide) (by decide) inb_S256x2048_S128x256_0_1280 inb_S256x2048_S128x128_0_1280,
    List.forall_mem_cons.mpr ⟨right_piece xaOf xaV xaV_apply x0 x1 0 4 (by decide) (by decide) inb_S256x2048_S128x256_0_1024 inb_S256x2048_S128x128_0_1152,
    List.forall_mem_cons.mpr ⟨left_piece xaOf xaV xaV_apply x0 x1 0 4 (by decide) (by decide) inb_S256x2048_S128x256_0_1024 inb_S256x2048_S128x128_0_1024,
    List.forall_mem_cons.mpr ⟨right_piece xaOf xaV xaV_apply x0 x1 0 3 (by decide) (by decide) inb_S256x2048_S128x256_0_768 inb_S256x2048_S128x128_0_896,
    List.forall_mem_cons.mpr ⟨left_piece xaOf xaV xaV_apply x0 x1 0 3 (by decide) (by decide) inb_S256x2048_S128x256_0_768 inb_S256x2048_S128x128_0_768,
    List.forall_mem_cons.mpr ⟨right_piece xaOf xaV xaV_apply x0 x1 0 2 (by decide) (by decide) inb_S256x2048_S128x256_0_512 inb_S256x2048_S128x128_0_640,
    List.forall_mem_cons.mpr ⟨left_piece xaOf xaV xaV_apply x0 x1 0 2 (by decide) (by decide) inb_S256x2048_S128x256_0_512 inb_S256x2048_S128x128_0_512,
    List.forall_mem_cons.mpr ⟨right_piece xaOf xaV xaV_apply x0 x1 0 1 (by decide) (by decide) inb_S256x2048_S128x256_0_256 inb_S256x2048_S128x128_0_384,
    List.forall_mem_cons.mpr ⟨left_piece xaOf xaV xaV_apply x0 x1 0 1 (by decide) (by decide) inb_S256x2048_S128x256_0_256 inb_S256x2048_S128x128_0_256,
    List.forall_mem_cons.mpr ⟨right_piece xaOf xaV xaV_apply x0 x1 0 0 (by decide) (by decide) inb_S256x2048_S128x256_0_0 inb_S256x2048_S128x128_0_128,
    List.forall_mem_cons.mpr ⟨left_piece xaOf xaV xaV_apply x0 x1 0 0 (by decide) (by decide) inb_S256x2048_S128x256_0_0 inb_S256x2048_S128x128_0_0,
    List.forall_mem_nil _⟩⟩⟩⟩⟩⟩⟩⟩⟩⟩⟩⟩⟩⟩⟩⟩⟩⟩⟩⟩⟩⟩⟩⟩⟩⟩⟩⟩⟩⟩⟩⟩

/-- The rotated values of group `g` of the 128-row half `r`. -/
def grpV (x0 : Vec Ideal S256x2048 .bf16) (x1 : Vec Ideal S256x256 .bf16) (r g : ℕ) : FVec Ideal S128x128 .f32 :=
  (if g % 2 = 0 then leftV else rightV) (rotV (View.ld x0 (Rect.unit (s := S256x2048) ![128 * (r % 2), 256 * (g / 2 % 8)] S128x256.size
    (fun a => match a with
      | ⟨0, _⟩ => by show 128 * (r % 2) + 128 ≤ 256; omega
      | ⟨1, _⟩ => by show 256 * (g / 2 % 8) + 256 ≤ 2048; omega))) (View.ld x1 r0_1))

/-- Its values are the rows of group `g`. -/
theorem grpV_apply (x0 : Vec Ideal S256x2048 .bf16) (x1 : Vec Ideal S256x256 .bf16) (r g : ℕ) (hr : r < 2) (hg : g < 16) (i j : Fin 128) :
    grpV x0 x1 r g (ix2 i j) = rowB x0 x1 ⟨128 * r + i.val, by omega⟩ ⟨g, hg⟩ j := by
  unfold grpV
  by_cases h : g % 2 = 0
  · rw [if_pos h]
    refine (left_row x0 x1 (r % 2) (g / 2 % 8) (by omega) (by omega) _ i j).trans ?_
    congr 1
    · exact Fin.ext (by dsimp only; omega)
    · exact Fin.ext (by dsimp only; omega)
  · rw [if_neg h]
    refine (right_row x0 x1 (r % 2) (g / 2 % 8) (by omega) (by omega) _ i j).trans ?_
    congr 1
    · exact Fin.ext (by dsimp only; omega)
    · exact Fin.ext (by dsimp only; omega)

/-- The scale at an element of the block of scales: lane `i` of row `g` is group `g`'s scale of block row `i`. -/
def scaleB (x0 : Vec Ideal S256x2048 .bf16) (x1 : Vec Ideal S256x256 .bf16) (y : S1x16x256.Idx) : EReal :=
  kScale (tOf (rowB x0 x1 (y 2) (y 1)))

theorem scale_piece (x0 : Vec Ideal S256x2048 .bf16) (x1 : Vec Ideal S256x256 .bf16) (r : ℕ) (hr : r < 2)
    (inb : ∀ a, (![0, 0, 128 * r] : Fin 3 → ℕ) a + S1x16x128.size a ≤ S1x16x256.size a) (x : S1x16x128.Idx) :
    storeV (packN (fun g => fullV (grpV x0 x1 r g)) 16) x
      = scaleB x0 x1 ((Rect.unit (s := S1x16x256) ![0, 0, 128 * r] S1x16x128.size inb).emb x) := by
  obtain ⟨z, g, i, rfl⟩ : ∃ z g i, x = ix3 z g i := ⟨_, _, _, eq_ix3 x⟩
  rw [storeV_apply, packN_apply _ _ _ 16 (by decide) (by dsimp only; omega), fullV_apply]
  unfold scaleB
  congr 2
  funext k
  rw [grpV_apply x0 x1 r g.val hr g.isLt]
  congr 1
  · exact Fin.ext (by show _ = 128 * r + 1 * i.val; dsimp only; omega)
  · exact Fin.ext (by show _ = 0 + 1 * g.val; dsimp only; omega)

/-- The block of scales: at every element the group's scale. -/
theorem out0_3_apply (x0 : Vec Ideal S256x2048 .bf16) (x1 : Vec Ideal S256x256 .bf16) (y : S1x16x256.Idx) :
    out0_3 (F := Ideal) x0 x1 y = scaleB x0 x1 y := by
  unfold out0_3
  refine View.canon_apply_of_pieces (Val := Elt Ideal) (e := .f32) (scaleB x0 x1) _ ?_ y (cover0_3 (F := Ideal) _ _ y)
  exact
    List.forall_mem_cons.mpr ⟨scale_piece x0 x1 1 (by decide) inb_S1x16x256_S1x16x128_0_0_128,
    List.forall_mem_cons.mpr ⟨scale_piece x0 x1 0 (by decide) inb_S1x16x256_S1x16x128_0_0_0,
    List.forall_mem_nil _⟩⟩

end Cert.KernelIdeal.Hand

end
-- ==== Proof.Arrays.lean ====
/-
  The first kernel's output arrays, index by index: the blocks it writes tile each array, and each block holds the
  rotated rows' codes, scales and dequantised values.
-/
module

public import proofs.«01_k».proof.Proof.Block

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Cert.Quant
open Idealize.ShloMosaic.Pipeline (Dat Cfg Window)

/-- Row `n`, group `G` of the whole array `X` rotated by the 256×256 matrix `H`. -/
def vrow (X : S16384x18432.Idx → EReal) (H : S256x256.Idx → EReal) (n : Fin 16384) (G : Fin 144) (j : Fin 128) : EReal :=
  rotOf (fun k => X (ix2 n ⟨256 * (G.val / 2) + k.val, by omega⟩)) (fun k => H (ix2 k ⟨128 * (G.val % 2) + j.val, by omega⟩))

/-- The group's function `Q` at an element of the whole array. -/
def atA (Q : (Fin 128 → EReal) → Fin 128 → EReal) (X : S16384x18432.Idx → EReal) (H : S256x256.Idx → EReal)
    (i : S16384x18432.Idx) : EReal :=
  Q (vrow X H (i 0) ⟨(i 1).val / 128, by have := (i 1).isLt; simp at this; omega⟩) ⟨(i 1).val % 128, by omega⟩

/-- The scales' array: entry (b, G, s) is the scale of group `G` of row `2048 b + s`. -/
def scaleA (X : S16384x18432.Idx → EReal) (H : S256x256.Idx → EReal) (i : S8x144x2048.Idx) : EReal :=
  kScale (tOf (vrow X H ⟨2048 * (i 0).val + (i 2).val, by
    have h0 := (i 0).isLt; have h2 := (i 2).isLt; simp at h0 h2; omega⟩ (i 1)))

/-- Where the first kernel's windows stand at each grid point. -/
theorem idx0_0 : ∀ t : Fin cfg0.N, win0_0.index t (0 : Fin 2) = t.val / 9 ∧ win0_0.index t (1 : Fin 2) = t.val % 9 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val / 9 ∧ win0_2.index t (1 : Fin 2) = t.val % 9 :=
  (by decide +kernel : ∀ t : Fin grid0.N, _)
theorem idx0_3 : ∀ t : Fin cfg0.N, win0_3.index t (0 : Fin 3) = t.val / 72 ∧ win0_3.index t (1 : Fin 3) = t.val % 9
    ∧ win0_3.index t (2 : Fin 3) = t.val / 9 % 8 :=
  (by decide +kernel : ∀ t : Fin grid0.N, _)
theorem idx0_4 : ∀ t : Fin cfg0.N, win0_4.index t (0 : Fin 2) = t.val / 9 ∧ win0_4.index t (1 : Fin 2) = t.val % 9 :=
  (by decide +kernel : ∀ t : Fin grid0.N, _)

variable (V : (c : Dev nD) → (b : Ref sig .tc) → Buf (Elt Ideal) ((c : Thread nD τ).loc b)) (c : Dev nD)

/-- A point's block of the input, read at a place of the block. -/
theorem iblk0_0_apply (t : Fin cfg0.N) (p : Fin 256) (q : Fin 2048) (n : Fin 16384) (k : Fin 18432)
    (hn : n.val = t.val / 9 * 256 + p.val) (hk : k.val = t.val % 9 * 2048 + q.val) :
    iblk0 V c 0 t (ix2 p q) = V c main_v0 (ix2 n k) := by
  show V c main_v0 (((cfg0.win 0).blk t).view.emb (ix2 p q)) = _
  refine congrArg (V c main_v0) ?_
  obtain ⟨e0, e1⟩ := idx0_0 t
  funext a; apply Fin.ext
  match a with
  | ⟨0, _⟩ => show win0_0.index t (0 : Fin 2) * 256 + 1 * p.val = n.val; rw [e0]; omega
  | ⟨1, _⟩ => show win0_0.index t (1 : Fin 2) * 2048 + 1 * q.val = k.val; rw [e1]; omega

/-- The rotation's block is the whole matrix. -/
theorem iblk0_1_apply (t : Fin cfg0.N) (j : S256x256.Idx) : iblk0 V c 1 t j = V c main_cst j := by
  show V c main_cst (((cfg0.win 1).blk t).view.emb j) = _
  refine congrArg (V c main_cst) ?_
  obtain ⟨e0, e1⟩ := idx0_1 t
  funext a; apply Fin.ext
  match a with
  | ⟨0, _⟩ => show win0_1.index t (0 : Fin 2) * 256 + 1 * (j 0).val = (j 0).val; rw [e0]; omega
  | ⟨1, _⟩ => show win0_1.index t (1 : Fin 2) * 256 + 1 * (j 1).val = (j 1).val; rw [e1]; omega

/-- A point's rotated row is the whole array's. -/
theorem rowB_iblk (t : Fin cfg0.N) (p : Fin 256) (g : Fin 16) (n : Fin 16384) (G : Fin 144)
    (hn : n.val = t.val / 9 * 256 + p.val) (hG : G.val = t.val % 9 * 16 + g.val) :
    rowB (iblk0 V c 0 t) (iblk0 V c 1 t) p g = vrow (V c main_v0) (V c main_cst) n G := by
  funext j
  unfold rowB vrow
  refine congrArg₂ rotOf (funext fun k => ?_) (funext fun k => ?_)
  · exact iblk0_0_apply V c t _ _ _ _ hn (by dsimp only; omega)
  · rw [iblk0_1_apply]
    exact congrArg (V c main_cst) (congrArg (ix2 k) (Fin.ext (by dsimp only; omega)))

/-- The block of a group function is the whole array's group function read through the block. -/
theorem atB_iblk (Q : (Fin 128 → EReal) → Fin 128 → EReal) (t : Fin cfg0.N) (y : S256x2048.Idx) (i : S16384x18432.Idx)
    (h0 : (i 0).val = t.val / 9 * 256 + (y 0).val) (h1 : (i 1).val = t.val % 9 * 2048 + (y 1).val) :
    atB Q (iblk0 V c 0 t) (iblk0 V c 1 t) y = atA Q (V c main_v0) (V c main_cst) i := by
  unfold atB atA
  rw [rowB_iblk V c t (y 0) _ (i 0) ⟨(i 1).val / 128, by have := (i 1).isLt; simp at this; omega⟩ h0 (by dsimp only; omega)]
  exact congrArg _ (Fin.ext (by dsimp only; omega))

theorem flushed0_2 (t : Fin cfg0.N) : (dat0 V c).flushed 2 t
    = ((cfg0.win 2).blk t).view.read (Elt Ideal) (atA codeOf (V c main_v0) (V c main_cst)) := by
  show (cfg0.win 2).cut (grid0.coords t) ((dat0 V c).after 2 t) = _
  rw [after0_2]
  funext y
  show out0_2 (iblk0 V c 0 t) (iblk0 V c 1 t) y = atA codeOf (V c main_v0) (V c main_cst) (((cfg0.win 2).blk t).view.emb y)
  rw [out0_2_apply]
  obtain ⟨e0, e1⟩ := idx0_2 t
  refine atB_iblk V c codeOf t y _ ?_ ?_
  · show win0_2.index t (0 : Fin 2) * 256 + 1 * (y 0).val = _; rw [e0]; omega
  · show win0_2.index t (1 : Fin 2) * 2048 + 1 * (y 1).val = _; rw [e1]; omega

theorem flushed0_4 (t : Fin cfg0.N) : (dat0 V c).flushed 4 t
    = ((cfg0.win 4).blk t).view.read (Elt Ideal) (atA xaOf (V c main_v0) (V c main_cst)) := by
  show (cfg0.win 4).cut (grid0.coords t) ((dat0 V c).after 4 t) = _
  rw [after0_4]
  funext y
  show out0_4 (iblk0 V c 0 t) (iblk0 V c 1 t) y = atA xaOf (V c main_v0) (V c main_cst) (((cfg0.win 4).blk t).view.emb y)
  rw [out0_4_apply]
  obtain ⟨e0, e1⟩ := idx0_4 t
  refine atB_iblk V c xaOf t y _ ?_ ?_
  · show win0_4.index t (0 : Fin 2) * 256 + 1 * (y 0).val = _; rw [e0]; omega
  · show win0_4.index t (1 : Fin 2) * 2048 + 1 * (y 1).val = _; rw [e1]; omega

/-- The block of scales is the scales' array read through the block. -/
theorem scaleB_iblk (t : Fin cfg0.N) (y : S1x16x256.Idx) (i : S8x144x2048.Idx) (h0 : (i 0).val = t.val / 72)
    (h1 : (i 1).val = t.val % 9 * 16 + (y 1).val) (h2 : (i 2).val = t.val / 9 % 8 * 256 + (y 2).val) :
    scaleB (iblk0 V c 0 t) (iblk0 V c 1 t) y = scaleA (V c main_v0) (V c main_cst) i := by
  unfold scaleB scaleA
  refine congrArg (fun r => kScale (tOf r)) (rowB_iblk V c t (y 2) (y 1) _ _ ?_ h1)
  dsimp only
  rw [h0, h2]; omega

theorem flushed0_3 (t : Fin cfg0.N) : (dat0 V c).flushed 3 t
    = ((cfg0.win 3).blk t).view.read (Elt Ideal) (scaleA (V c main_v0) (V c main_cst)) := by
  show win0_3.cut (grid0.coords t) ((dat0 V c).after 3 t) = _
  rw [after0_3]
  funext y
  obtain ⟨e0, e1, e2⟩ := idx0_3 t
  have hy : (win0_3.xinj (grid0.coords t) y (0 : Fin 3)).val < 1 := (win0_3.xinj (grid0.coords t) y (0 : Fin 3)).isLt
  have hy' : (y (0 : Fin 3)).val < 1 := hy
  have h0 : ((((cfg0.win 3).blk t).view.emb y : S8x144x2048.Idx) 0).val = t.val / 72 := by
    show win0_3.index t (0 : Fin 3) * 1 + 1 * (y (0 : Fin 3)).val = _; rw [e0]; omega
  have h1 : ((((cfg0.win 3).blk t).view.emb y : S8x144x2048.Idx) 1).val = t.val % 9 * 16 + (y (1 : Fin 3)).val := by
    show win0_3.index t (1 : Fin 3) * 16 + 1 * (y (1 : Fin 3)).val = _; rw [e1]; omega
  have h2 : ((((cfg0.win 3).blk t).view.emb y : S8x144x2048.Idx) 2).val = t.val / 9 % 8 * 256 + (y (2 : Fin 3)).val := by
    show win0_3.index t (2 : Fin 3) * 256 + 1 * (y (2 : Fin 3)).val = _; rw [e2]; omega
  rw [View.read_apply, cast_eq]
  show out0_3 (iblk0 V c 0 t) (iblk0 V c 1 t) (win0_3.xinj (grid0.coords t) y) = _
  rw [out0_3_apply]
  apply scaleB_iblk V c t
  · exact h0
  · exact h1
  · exact h2

/-- Every index of the codes' array is in a written block. -/
theorem cover0_2w (i : S16384x18432.Idx) : ∃ t : Fin cfg0.N, (cfg0.win 2).flush t = true ∧ i ∈ ((cfg0.win 2).blk t).view.set := by
  have h0 : (i 0).val < 16384 := (i 0).isLt
  have h1 : (i 1).val < 18432 := (i 1).isLt
  have hN : cfg0.N = 576 := N_0
  have hlt : (i 0).val / 256 * 9 + (i 1).val / 2048 < cfg0.N := by omega
  obtain ⟨t, ht⟩ : ∃ t : Fin cfg0.N, t.val = (i 0).val / 256 * 9 + (i 1).val / 2048 := ⟨⟨_, hlt⟩, rfl⟩
  refine ⟨t, flush0_2 _, ?_⟩
  obtain ⟨e0, e1⟩ := idx0_2 t
  have h := ((cfg0.win 2).blk t).view.emb_mem_set
    (ix2 (⟨(i 0).val % 256, by omega⟩ : Fin 256) (⟨(i 1).val % 2048, by omega⟩ : Fin 2048))
  have he : (((cfg0.win 2).blk t).view.emb
    (ix2 (⟨(i 0).val % 256, by omega⟩ : Fin 256) (⟨(i 1).val % 2048, by omega⟩ : Fin 2048)) : S16384x18432.Idx) = i := by
    funext a; apply Fin.ext
    match a with
    | ⟨0, _⟩ => show win0_2.index t (0 : Fin 2) * 256 + 1 * ((i 0).val % 256) = (i 0).val; rw [e0]; omega
    | ⟨1, _⟩ => show win0_2.index t (1 : Fin 2) * 2048 + 1 * ((i 1).val % 2048) = (i 1).val; rw [e1]; omega
  exact he ▸ h

/-- Every index of the dequantised array is in a written block. -/
theorem cover0_4w (i : S16384x18432.Idx) : ∃ t : Fin cfg0.N, (cfg0.win 4).flush t = true ∧ i ∈ ((cfg0.win 4).blk t).view.set := by
  have h0 : (i 0).val < 16384 := (i 0).isLt
  have h1 : (i 1).val < 18432 := (i 1).isLt
  have hN : cfg0.N = 576 := N_0
  have hlt : (i 0).val / 256 * 9 + (i 1).val / 2048 < cfg0.N := by omega
  obtain ⟨t, ht⟩ : ∃ t : Fin cfg0.N, t.val = (i 0).val / 256 * 9 + (i 1).val / 2048 := ⟨⟨_, hlt⟩, rfl⟩
  refine ⟨t, flush0_4 _, ?_⟩
  obtain ⟨e0, e1⟩ := idx0_4 t
  have h := ((cfg0.win 4).blk t).view.emb_mem_set
    (ix2 (⟨(i 0).val % 256, by omega⟩ : Fin 256) (⟨(i 1).val % 2048, by omega⟩ : Fin 2048))
  have he : (((cfg0.win 4).blk t).view.emb
    (ix2 (⟨(i 0).val % 256, by omega⟩ : Fin 256) (⟨(i 1).val % 2048, by omega⟩ : Fin 2048)) : S16384x18432.Idx) = i := by
    funext a; apply Fin.ext
    match a with
    | ⟨0, _⟩ => show win0_4.index t (0 : Fin 2) * 256 + 1 * ((i 0).val % 256) = (i 0).val; rw [e0]; omega
    | ⟨1, _⟩ => show win0_4.index t (1 : Fin 2) * 2048 + 1 * ((i 1).val % 2048) = (i 1).val; rw [e1]; omega
  exact he ▸ h

/-- Every index of the scales' array is in a written block. -/
theorem cover0_3w (i : S8x144x2048.Idx) : ∃ t : Fin cfg0.N, (cfg0.win 3).flush t = true ∧ i ∈ ((cfg0.win 3).blk t).view.set := by
  have h0 : (i 0).val < 8 := (i 0).isLt
  have h1 : (i 1).val < 144 := (i 1).isLt
  have h2 : (i 2).val < 2048 := (i 2).isLt
  have hN : cfg0.N = 576 := N_0
  have hlt : ((i 0).val * 8 + (i 2).val / 256) * 9 + (i 1).val / 16 < cfg0.N := by omega
  obtain ⟨t, ht⟩ : ∃ t : Fin cfg0.N, t.val = ((i 0).val * 8 + (i 2).val / 256) * 9 + (i 1).val / 16 := ⟨⟨_, hlt⟩, rfl⟩
  refine ⟨t, flush0_3 _, ?_⟩
  obtain ⟨e0, e1, e2⟩ := idx0_3 t
  have h := ((cfg0.win 3).blk t).view.emb_mem_set
    (ix3 (0 : Fin 1) (⟨(i 1).val % 16, by omega⟩ : Fin 16) (⟨(i 2).val % 256, by omega⟩ : Fin 256))
  have he : (((cfg0.win 3).blk t).view.emb
    (ix3 (0 : Fin 1) (⟨(i 1).val % 16, by omega⟩ : Fin 16) (⟨(i 2).val % 256, by omega⟩ : Fin 256)) : S8x144x2048.Idx) = i := by
    funext a; apply Fin.ext
    match a with
    | ⟨0, _⟩ => show win0_3.index t (0 : Fin 3) * 1 + 1 * 0 = (i 0).val; rw [e0]; omega
    | ⟨1, _⟩ => show win0_3.index t (1 : Fin 3) * 16 + 1 * ((i 1).val % 16) = (i 1).val; rw [e1]; omega
    | ⟨2, _⟩ => show win0_3.index t (2 : Fin 3) * 256 + 1 * ((i 2).val % 256) = (i 2).val; rw [e2]; omega
  exact he ▸ h

/-- The codes' array after the first kernel. -/
theorem arr0_2 : (dat0 V c).arrAt 2 cfg0.N = atA codeOf (V c main_v0) (V c main_cst) :=
  (dat0 V c).arrAt_eq_of_cover 2 _ (fun t _ => flushed0_2 V c t) cover0_2w

/-- The scales' array after the first kernel. -/
theorem arr0_3 : (dat0 V c).arrAt 3 cfg0.N = scaleA (V c main_v0) (V c main_cst) :=
  (dat0 V c).arrAt_eq_of_cover 3 _ (fun t _ => flushed0_3 V c t) cover0_3w

/-- The dequantised array after the first kernel. -/
theorem arr0_4 : (dat0 V c).arrAt 4 cfg0.N = atA xaOf (V c main_v0) (V c main_cst) :=
  (dat0 V c).arrAt_eq_of_cover 4 _ (fun t _ => flushed0_4 V c t) cover0_4w

end Cert.KernelIdeal.Hand

end
-- ==== Proof.Product.lean ====
/-
  The second kernel's output array, index by index: the product of its two operands, each column times that column's
  scale.
-/
module

public import proofs.«01_k».proof.Proof.BlockV

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- An entry of the scaled product. -/
def prodA (A : S16384x18432.Idx → EReal) (W : S18432x7168.Idx → EReal) (s : S1x7168.Idx → EReal) (i : S16384x7168.Idx) : EReal :=
  (∑ k : Fin 18432, A (ix2 (i 0) k) * W (ix2 k (i 1))) * s (ix2 (0 : Fin 1) (i 1))

theorem hz2 : (![0, 0] : Fin 2 → Nat) = fun _ => 0 := funext fun a => by fin_cases a <;> rfl

/-- What one block of the second kernel's output holds. -/
theorem out1_3_apply (x0 : Vec Ideal S512x18432 .bf16) (x1 : Vec Ideal S18432x512 .fp8e4m3) (x2 : Vec Ideal S1x512 .f32) (p q : Fin 512) :
    out1_3 (F := Ideal) x0 x1 x2 (ix2 p q)
      = (∑ k : Fin 18432, (x0 (ix2 p k) : EReal) * x1 (ix2 k q)) * (x2 (ix2 (0 : Fin 1) q) : EReal) := by
  unfold out1_3
  rw [View.canon_unit_zero hz2, View.ld_unit_zero hz2, View.ld_unit_zero hz2, View.ld_unit_zero hz2]
  unfold k1_pay1
  rw [shapeCast_self, shapeCast_self]
  refine (mulf_apply _ _ _).trans ?_
  refine congrArg₂ (· * ·) ?_ (broadcastTo_1b_ab_apply _ _ p q)
  refine (Ideal.matmul_plain_apply (M := 512) (K := 18432) (N := 512) (φ₁ := .bf16) (φ₂ := .fp8e4m3) none x0 x1 _ p q).trans ?_
  show Ideal.ofBits .f32 0x00000000#32 + _ = _
  rw [Ideal.ofBits_zero_f32, zero_add]

/-- Where the second kernel's windows stand at each grid point. -/
theorem idx1_0 : ∀ t : Fin cfg1.N, win1_0.index t (0 : Fin 2) = t.val / 14 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = t.val % 14 :=
  (by decide +kernel : ∀ t : Fin grid1.N, _)
theorem idx1_2 : ∀ t : Fin cfg1.N, win1_2.index t (0 : Fin 2) = 0 ∧ win1_2.index t (1 : Fin 2) = t.val % 14 :=
  (by decide +kernel : ∀ t : Fin grid1.N, _)
theorem idx1_3 : ∀ t : Fin cfg1.N, win1_3.index t (0 : Fin 2) = t.val / 14 ∧ win1_3.index t (1 : Fin 2) = t.val % 14 :=
  (by decide +kernel : ∀ t : Fin grid1.N, _)

variable (V : (c : Dev nD) → (b : Ref sig .tc) → Buf (Elt Ideal) ((c : Thread nD τ).loc b)) (c : Dev nD)

/-- The first operand's block at a point: 512 whole rows. -/
theorem iblk1_0_apply (t : Fin cfg1.N) (p : Fin 512) (k : Fin 18432) (n : Fin 16384) (hn : n.val = t.val / 14 * 512 + p.val) :
    iblk1 V c 0 t (ix2 p k) = V c main_v1_2 (ix2 n k) := by
  show V c main_v1_2 (((cfg1.win 0).blk t).view.emb (ix2 p k)) = _
  refine congrArg (V c main_v1_2) ?_
  obtain ⟨e0, e1⟩ := idx1_0 t
  funext a; apply Fin.ext
  match a with
  | ⟨0, _⟩ => show win1_0.index t (0 : Fin 2) * 512 + 1 * p.val = n.val; rw [e0]; omega
  | ⟨1, _⟩ => show win1_0.index t (1 : Fin 2) * 18432 + 1 * k.val = k.val; rw [e1]; omega

/-- The second operand's: 512 whole columns. -/
theorem iblk1_1_apply (t : Fin cfg1.N) (k : Fin 18432) (q : Fin 512) (o : Fin 7168) (ho : o.val = t.val % 14 * 512 + q.val) :
    iblk1 V c 1 t (ix2 k q) = V c main_arg1 (ix2 k o) := by
  show V c main_arg1 (((cfg1.win 1).blk t).view.emb (ix2 k q)) = _
  refine congrArg (V c main_arg1) ?_
  obtain ⟨e0, e1⟩ := idx1_1 t
  funext a; apply Fin.ext
  match a with
  | ⟨0, _⟩ => show win1_1.index t (0 : Fin 2) * 18432 + 1 * k.val = k.val; rw [e0]; omega
  | ⟨1, _⟩ => show win1_1.index t (1 : Fin 2) * 512 + 1 * q.val = o.val; rw [e1]; omega

/-- The scales': those columns'. -/
theorem iblk1_2_apply (t : Fin cfg1.N) (z : Fin 1) (q : Fin 512) (o : Fin 7168) (ho : o.val = t.val % 14 * 512 + q.val) :
    iblk1 V c 2 t (ix2 z q) = V c main_v2 (ix2 z o) := by
  show V c main_v2 (((cfg1.win 2).blk t).view.emb (ix2 z q)) = _
  refine congrArg (V c main_v2) ?_
  obtain ⟨e0, e1⟩ := idx1_2 t
  funext a; apply Fin.ext
  match a with
  | ⟨0, _⟩ => show win1_2.index t (0 : Fin 2) * 1 + 1 * z.val = z.val; rw [e0]; omega
  | ⟨1, _⟩ => show win1_2.index t (1 : Fin 2) * 512 + 1 * q.val = o.val; rw [e1]; omega

/-- The block of the product is the whole product read through the block. -/
theorem prod_iblk (t : Fin cfg1.N) (y : S512x512.Idx) (i : S16384x7168.Idx)
    (h0 : (i 0).val = t.val / 14 * 512 + (y 0).val) (h1 : (i 1).val = t.val % 14 * 512 + (y 1).val) :
    out1_3 (F := Ideal) (iblk1 V c 0 t) (iblk1 V c 1 t) (iblk1 V c 2 t) y = prodA (V c main_v1_2) (V c main_arg1) (V c main_v2) i := by
  obtain ⟨p, q, rfl⟩ : ∃ p q, y = ix2 p q := ⟨_, _, eq_ix2 y⟩
  rw [out1_3_apply]
  unfold prodA
  refine congrArg₂ (· * ·) (Finset.sum_congr rfl fun k _ => congrArg₂ (· * ·) ?_ ?_) ?_
  · exact iblk1_0_apply V c t p k (i 0) h0
  · exact iblk1_1_apply V c t k q (i 1) h1
  · exact iblk1_2_apply V c t 0 q (i 1) h1

theorem flushed1_3 (t : Fin cfg1.N) : (dat1 V c).flushed 3 t
    = ((cfg1.win 3).blk t).view.read (Elt Ideal) (prodA (V c main_v1_2) (V c main_arg1) (V c main_v2)) := by
  show win1_3.cut (grid1.coords t) ((dat1 V c).after 3 t) = _
  rw [after1_3]
  funext y
  obtain ⟨e0, e1⟩ := idx1_3 t
  have h0 : ((((cfg1.win 3).blk t).view.emb y : S16384x7168.Idx) 0).val = t.val / 14 * 512 + (y (0 : Fin 2)).val := by
    show win1_3.index t (0 : Fin 2) * 512 + 1 * (y (0 : Fin 2)).val = _; rw [e0]; omega
  have h1 : ((((cfg1.win 3).blk t).view.emb y : S16384x7168.Idx) 1).val = t.val % 14 * 512 + (y (1 : Fin 2)).val := by
    show win1_3.index t (1 : Fin 2) * 512 + 1 * (y (1 : Fin 2)).val = _; rw [e1]; omega
  rw [View.read_apply, cast_eq]
  show out1_3 (iblk1 V c 0 t) (iblk1 V c 1 t) (iblk1 V c 2 t) (win1_3.xinj (grid1.coords t) y) = _
  apply prod_iblk V c t
  · exact h0
  · exact h1

/-- Every index of the product's array is in a written block. -/
theorem cover1_3w (i : S16384x7168.Idx) : ∃ t : Fin cfg1.N, (cfg1.win 3).flush t = true ∧ i ∈ ((cfg1.win 3).blk t).view.set := by
  have h0 : (i 0).val < 16384 := (i 0).isLt
  have h1 : (i 1).val < 7168 := (i 1).isLt
  have hN : cfg1.N = 448 := N_1
  have hlt : (i 0).val / 512 * 14 + (i 1).val / 512 < cfg1.N := by omega
  obtain ⟨t, ht⟩ : ∃ t : Fin cfg1.N, t.val = (i 0).val / 512 * 14 + (i 1).val / 512 := ⟨⟨_, hlt⟩, rfl⟩
  refine ⟨t, flush1_3 _, ?_⟩
  obtain ⟨e0, e1⟩ := idx1_3 t
  have h := ((cfg1.win 3).blk t).view.emb_mem_set
    (ix2 (⟨(i 0).val % 512, by omega⟩ : Fin 512) (⟨(i 1).val % 512, by omega⟩ : Fin 512))
  have he : (((cfg1.win 3).blk t).view.emb
    (ix2 (⟨(i 0).val % 512, by omega⟩ : Fin 512) (⟨(i 1).val % 512, by omega⟩ : Fin 512)) : S16384x7168.Idx) = i := by
    funext a; apply Fin.ext
    match a with
    | ⟨0, _⟩ => show win1_3.index t (0 : Fin 2) * 512 + 1 * ((i 0).val % 512) = (i 0).val; rw [e0]; omega
    | ⟨1, _⟩ => show win1_3.index t (1 : Fin 2) * 512 + 1 * ((i 1).val % 512) = (i 1).val; rw [e1]; omega
  exact he ▸ h

/-- The product's array after the second kernel. -/
theorem arr1_3 : (dat1 V c).arrAt 3 cfg1.N = prodA (V c main_v1_2) (V c main_arg1) (V c main_v2) :=
  (dat1 V c).arrAt_eq_of_cover 3 _ (fun t _ => flushed1_3 V c t) cover1_3w

end Cert.KernelIdeal.Hand

end
-- ==== Proof.Rows.lean ====
/-
  One group of 128 values rotated in the kernel's order (the sum of products, then the scale) and in the reference's (each
  sign scaled first): the same when the values are finite, and the group's largest magnitude over 448 lies where the
  kernel's search agrees with the reference's exponent.
-/
module

public import proofs.«01_k».proof.Proof.Quant
public import proofs.«01_k».proof.Proof.Signs

@[expose] public section

set_option maxRecDepth 16384

noncomputable section

namespace Cert.Rows

open Idealize.ShloMosaic Idealize.ShloMosaic.ValueIdx Cert.Quant

/-- A group rotated, scaled last. -/
def kRow (x : Fin 128 → EReal) (S : (⟨2, ![128, 128]⟩ : Shape).Idx → EReal) (j : Fin 128) : EReal :=
  (∑ k : Fin 128, x k * S (ix2 k j)) * Ideal.ofBits .f32 0x3DB504F3#32

/-- A group rotated, each sign scaled first. -/
def rRow (x : Fin 128 → EReal) (S : (⟨2, ![128, 128]⟩ : Shape).Idx → EReal) (j : Fin 128) : EReal :=
  ∑ k : Fin 128, x k * (S (ix2 k j) * Ideal.ofBits .f32 0x3DB504F3#32)

theorem ofBits_c : Ideal.ofBits .f32 0x3DB504F3#32 = ((11863283 / 134217728 : ℝ) : EReal) := by
  simp [Ideal.ofBits, Ideal.ieee, -EReal.coe_mul]; norm_num

theorem ofBits_d : Ideal.ofBits .f32 0x3B124925#32 = ((9586981 / 4294967296 : ℝ) : EReal) := by
  simp [Ideal.ofBits, Ideal.ieee, -EReal.coe_mul]; norm_num

theorem ofBits_bot : Ideal.ofBits .f32 0xFF800000#32 = ⊥ := by
  simp [Ideal.ofBits, Ideal.ieee]

theorem coe_sum (f : Fin 128 → ℝ) : (∑ k, ((f k : ℝ) : EReal)) = ((∑ k, f k : ℝ) : EReal) := by
  have h : ∀ s : Finset (Fin 128), (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact h _

/-- The 128 values of group `G` of row `(b, s)`. -/
def grp (x : (⟨3, ![8, 2048, 18432]⟩ : Shape).Idx → EReal) (b : Fin 8) (s : Fin 2048) (G : Fin 144) (k : Fin 128) : EReal :=
  x (ix3 b s (⟨128 * G.val + k.val, by omega⟩ : Fin 18432))

/-- The code of element `d` of row `(b, s)`. -/
def codesF (x : (⟨3, ![8, 2048, 18432]⟩ : Shape).Idx → EReal) (b : Fin 8) (s : Fin 2048) (d : Fin 18432) : EReal :=
  codeOf (kRow (grp x b s ⟨d.val / 128, by omega⟩) Signs.signs) ⟨d.val % 128, by omega⟩

/-- The scale of group `g` of row `(b, s)`. -/
def scaleF (x : (⟨3, ![8, 2048, 18432]⟩ : Shape).Idx → EReal) (b : Fin 8) (s : Fin 2048) (g : Fin 144) : EReal :=
  kScale (tOf (kRow (grp x b s g) Signs.signs))

/-- The decoded value of element `d` of row `(b, s)`. -/
def xaF (x : (⟨3, ![8, 2048, 18432]⟩ : Shape).Idx → EReal) (b : Fin 8) (s : Fin 2048) (d : Fin 18432) : EReal :=
  xaOf (kRow (grp x b s ⟨d.val / 128, by omega⟩) Signs.signs) ⟨d.val % 128, by omega⟩

/-- The product at row `(b, s)` and output `o`. -/
def yF (x : (⟨3, ![8, 2048, 18432]⟩ : Shape).Idx → EReal) (w : (⟨2, ![18432, 7168]⟩ : Shape).Idx → EReal) (ws : (⟨1, ![7168]⟩ : Shape).Idx → EReal)
    (b : Fin 8) (s : Fin 2048) (o : Fin 7168) : EReal :=
  (∑ k : Fin 18432, xaF x b s k * w (ix2 k o)) * ws (ix1 o)

/-- The entries of a matrix of signs as reals. -/
theorem pm_real {S : (⟨2, ![128, 128]⟩ : Shape).Idx → EReal} (hS : Signs.PM S) (i) : ∃ r : ℝ, S i = (r : EReal) ∧ |r| = 1 := by
  rcases hS i with h | h
  · exact ⟨1, h, by norm_num⟩
  · exact ⟨-1, h, by norm_num⟩

/-- On finite values the two orders give the same, a real of magnitude at most 128 times the values' bound. -/
theorem row_real (x : Fin 128 → EReal) {S : (⟨2, ![128, 128]⟩ : Shape).Idx → EReal} (hS : Signs.PM S) (M : ℝ)
    (hx : ∀ k, ∃ r : ℝ, x k = (r : EReal) ∧ |r| ≤ M) (j : Fin 128) :
    ∃ u : ℝ, kRow x S j = (u : EReal) ∧ rRow x S j = (u : EReal) ∧ |u| ≤ 128 * (M * (11863283 / 134217728)) := by
  choose r hr hb using hx
  choose s hs h1 using pm_real hS
  refine ⟨∑ k, r k * (s (ix2 k j) * (11863283 / 134217728)), ?_, ?_, ?_⟩
  · unfold kRow
    rw [ofBits_c, Finset.sum_congr rfl fun k _ => show x k * S (ix2 k j) = ((r k * s (ix2 k j) : ℝ) : EReal) by rw [hr, hs, EReal.coe_mul],
      coe_sum, ← EReal.coe_mul, Finset.sum_mul]
    refine congrArg _ (Finset.sum_congr rfl fun k _ => by ring)
  · unfold rRow
    rw [ofBits_c, Finset.sum_congr rfl fun k _ => show x k * (S (ix2 k j) * ((11863283 / 134217728 : ℝ) : EReal))
      = ((r k * (s (ix2 k j) * (11863283 / 134217728)) : ℝ) : EReal) by rw [hr, hs, EReal.coe_mul, EReal.coe_mul], coe_sum]
  · refine (Finset.abs_sum_le_sum_abs _ _).trans ?_
    refine (Finset.sum_le_sum (g := fun _ => M * (11863283 / 134217728)) fun k _ => ?_).trans ?_
    · rw [abs_mul, abs_mul, h1, one_mul, abs_of_pos (by norm_num : (0 : ℝ) < 11863283 / 134217728)]
      exact mul_le_mul_of_nonneg_right (hb k) (by norm_num)
    · rw [Finset.sum_const, Finset.card_univ, Fintype.card_fin, nsmul_eq_mul]; norm_num

theorem row_eq (x : Fin 128 → EReal) {S : (⟨2, ![128, 128]⟩ : Shape).Idx → EReal} (hS : Signs.PM S) (M : ℝ)
    (hx : ∀ k, ∃ r : ℝ, x k = (r : EReal) ∧ |r| ≤ M) : rRow x S = kRow x S := by
  funext j
  obtain ⟨u, hk, hr, -⟩ := row_real x hS M hx j
  rw [hk, hr]

/-- A group's largest magnitude over 448, from values below 2¹²⁸, is at least zero and below 2¹²⁶. -/
theorem t_bounds (x : Fin 128 → EReal) {S : (⟨2, ![128, 128]⟩ : Shape).Idx → EReal} (hS : Signs.PM S)
    (hx : ∀ k, ∃ r : ℝ, x k = (r : EReal) ∧ |r| ≤ 2 ^ 128) : 0 ≤ tOf (kRow x S) ∧ tOf (kRow x S) < pw 253 := by
  have hu := fun j => row_real x hS (2 ^ 128) hx j
  choose u hk _ hb using hu
  have hd : (0 : EReal) ≤ Ideal.ofBits .f32 0x3B124925#32 := by rw [ofBits_d]; exact_mod_cast (by norm_num : (0 : ℝ) ≤ 9586981 / 4294967296)
  have hmag : ∀ k, max (kRow x S k) (-kRow x S k) = ((|u k| : ℝ) : EReal) := fun k => by
    rw [hk, ← EReal.coe_neg, abs_eq_max_neg]; exact (EReal.coe_strictMono.monotone.map_max).symm
  unfold tOf
  simp only [hmag, ofBits_bot]
  constructor
  · refine EReal.mul_nonneg ?_ hd
    exact (Finset.le_fold_max (s := Finset.univ) (f := fun k => ((|u k| : ℝ) : EReal)) (b := ⊥) (0 : EReal)).mpr (.inr ⟨0, Finset.mem_univ _, by exact_mod_cast abs_nonneg _⟩)
  · have hle : (Finset.univ : Finset (Fin 128)).fold max ⊥ (fun k => ((|u k| : ℝ) : EReal)) ≤ ((2 ^ 132 : ℝ) : EReal) :=
      (Finset.fold_max_le _).mpr ⟨bot_le, fun k _ => by
        refine EReal.coe_le_coe_iff.mpr ((hb k).trans ?_)
        norm_num⟩
    refine (mul_le_mul_of_nonneg_right hle hd).trans_lt ?_
    rw [ofBits_d, pw_pos (by norm_num) (by norm_num), ← EReal.coe_mul]
    refine EReal.coe_lt_coe_iff.mpr ?_
    norm_num

end Cert.Rows

end
-- ==== Proof.KernelVals.lean ====
/-
  The kernel's three results, index by index, as functions of the arguments.
-/
module

public import proofs.«01_k».proof.Proof.HostK
public import proofs.«01_k».proof.Proof.Arrays
public import proofs.«01_k».proof.Proof.Product
public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Cert.Quant Cert.Rows

variable (m : (ℓ : Loc nD τ sig) → Buf (Elt Ideal) ℓ) (ρ : Dev nD → PrngReg) (c : Dev nD)

/-- A group's row against a block-diagonal matrix of signs: only the group's own half of the 256 values counts. -/
theorem vrow_eq (X : S16384x18432.Idx → EReal) (H : S256x256.Idx → EReal) (x : S8x2048x18432.Idx → EReal)
    (hX : ∀ (b : Fin 8) (s : Fin 2048) (d : Fin 18432) (n : Fin 16384), n.val = 2048 * b.val + s.val → X (ix2 n d) = x (ix3 b s d))
    (hH : ∀ k j : Fin 256, H (ix2 k j) = (if (⟨k.val / 128, by omega⟩ : Fin 2) = ⟨j.val / 128, by omega⟩ then (1 : EReal) else 0)
      * Signs.signs (ix2 (⟨k.val % 128, by omega⟩ : Fin 128) (⟨j.val % 128, by omega⟩ : Fin 128)))
    (b : Fin 8) (s : Fin 2048) (n : Fin 16384) (hn : n.val = 2048 * b.val + s.val) (G : Fin 144) :
    vrow X H n G = kRow (grp x b s G) Signs.signs := by
  funext j
  unfold vrow rotOf kRow
  refine congrArg (· * Ideal.ofBits .f32 0x3DB504F3#32) ?_
  have hs := Signs.sum_half (fun t => if h : 256 * (G.val / 2) + t < 18432 then x (ix3 b s ⟨256 * (G.val / 2) + t, h⟩) else 0)
    (fun p => if p = (⟨G.val % 2, by omega⟩ : Fin 2) then 1 else 0) (fun k => Signs.signs (ix2 k j)) ⟨G.val % 2, by omega⟩ (fun _ => rfl)
  refine Eq.trans ?_ (hs.trans ?_)
  · refine Finset.sum_congr rfl fun k _ => ?_
    have hj : (⟨(128 * (G.val % 2) + j.val) % 128, by omega⟩ : Fin 128) = j := Fin.ext (by show (128 * (G.val % 2) + j.val) % 128 = j.val; omega)
    have hq : (⟨(128 * (G.val % 2) + j.val) / 128, by omega⟩ : Fin 2) = ⟨G.val % 2, by omega⟩ := Fin.ext (by show (128 * (G.val % 2) + j.val) / 128 = G.val % 2; omega)
    show X (ix2 n ⟨256 * (G.val / 2) + k.val, _⟩) * H (ix2 k ⟨128 * (G.val % 2) + j.val, _⟩) = _
    rw [hX b s _ n hn, hH, dif_pos (by omega : 256 * (G.val / 2) + k.val < 18432)]
    simp only [hj, hq]
  · refine Finset.sum_congr rfl fun k _ => ?_
    refine congrArg (· * Signs.signs (ix2 k j)) ?_
    show dite _ _ _ = _
    rw [dif_pos (by show 256 * (G.val / 2) + (128 * (G.val % 2) + k.val) < 18432; omega)]
    unfold grp
    refine congrArg (fun d : Fin 18432 => x (ix3 b s d)) (Fin.ext ?_)
    show 256 * (G.val / 2) + (128 * (G.val % 2) + k.val) = 128 * G.val + k.val
    omega

/-- The row of the kernel's first region. -/
theorem row_eq (b : Fin 8) (s : Fin 2048) (n : Fin 16384) (hn : n.val = 2048 * b.val + s.val) (G : Fin 144) :
    vrow (V1 m ρ c main_v0) (V1 m ρ c main_cst) n G = kRow (grp (m ((c : Thread nD τ).loc main_arg0)) b s G) Signs.signs :=
  vrow_eq (W1 m ρ c main_v0) (W1 m ρ c main_cst) _ (fun b s d n hn => W1_v0 m ρ c b s d n hn) (fun k j => W1_cst m ρ c k j) b s n hn G

/-- The codes array at the end. -/
theorem W4_v1_0 : W4 m ρ c main_v1_0 = atA codeOf (V1 m ρ c main_v0) (V1 m ρ c main_cst) :=
  (W4_of m ρ c main_v1_0 (by decide)).trans ((W3_of m ρ c main_v1_0 (by decide)).trans ((W2_arr m ρ c 2).trans (arr0_2 (V1 m ρ) c)))

/-- The scales array at the end. -/
theorem W4_v1_1 : W4 m ρ c main_v1_1 = scaleA (V1 m ρ c main_v0) (V1 m ρ c main_cst) :=
  (W4_of m ρ c main_v1_1 (by decide)).trans ((W3_of m ρ c main_v1_1 (by decide)).trans ((W2_arr m ρ c 3).trans (arr0_3 (V1 m ρ) c)))

/-- The decoded values the product reads. -/
theorem W3_v1_2 : W3 m ρ c main_v1_2 = atA xaOf (V1 m ρ c main_v0) (V1 m ρ c main_cst) :=
  (W3_of m ρ c main_v1_2 (by decide)).trans ((W2_arr m ρ c 4).trans (arr0_4 (V1 m ρ) c))

/-- The product array at the end. -/
theorem W4_v3 : W4 m ρ c main_v3 = prodA (V3 m ρ c main_v1_2) (V3 m ρ c main_arg1) (V3 m ρ c main_v2) :=
  (W4_arr m ρ c 3).trans (arr1_3 (V3 m ρ) c)

/-- The codes. -/
theorem codes_apply (b : Fin 8) (s : Fin 2048) (d : Fin 18432) :
    (W5 m ρ c main_v5 : S8x2048x18432.Idx → EReal) (ix3 b s d) = codesF (m ((c : Thread nD τ).loc main_arg0)) b s d := by
  rw [W5_v5 m ρ c b s d ⟨2048 * b.val + s.val, by omega⟩ rfl, W4_v1_0]
  show codeOf (vrow _ _ ⟨2048 * b.val + s.val, _⟩ ⟨d.val / 128, _⟩) ⟨d.val % 128, _⟩ = _
  rw [row_eq m ρ c b s _ rfl]
  rfl

/-- The scales. -/
theorem scale_apply (b : Fin 8) (s : Fin 2048) (g : Fin 144) :
    (W5 m ρ c main_v6 : S8x2048x144.Idx → EReal) (ix3 b s g) = scaleF (m ((c : Thread nD τ).loc main_arg0)) b s g := by
  rw [W5_v6 m ρ c b s g, W4_v1_1]
  show kScale (tOf (vrow _ _ ⟨2048 * b.val + s.val, _⟩ g)) = _
  rw [row_eq m ρ c b s _ rfl]
  rfl

/-- The product. -/
theorem y_apply (b : Fin 8) (s : Fin 2048) (o : Fin 7168) :
    (W5 m ρ c main_v4 : S8x2048x7168.Idx → EReal) (ix3 b s o)
      = yF (m ((c : Thread nD τ).loc main_arg0)) (m ((c : Thread nD τ).loc main_arg1)) (m ((c : Thread nD τ).loc main_arg2)) b s o := by
  rw [W5_v4 m ρ c b s o ⟨2048 * b.val + s.val, by omega⟩ rfl, W4_v3]
  have h1 : V3 m ρ c main_arg1 = m ((c : Thread nD τ).loc main_arg1) := W3_args m ρ c main_arg1 (by decide)
  have h2 : V3 m ρ c main_v1_2 = _ := W3_v1_2 m ρ c
  rw [h1, h2]
  unfold prodA yF
  refine congrArg₂ (· * ·) (Finset.sum_congr rfl fun k _ => congrArg₂ (· * ·) ?_ rfl) (W3_v2 m ρ c o)
  show xaOf (vrow _ _ ⟨2048 * b.val + s.val, _⟩ ⟨k.val / 128, _⟩) ⟨k.val % 128, _⟩ = _
  rw [row_eq m ρ c b s _ rfl]
  rfl

end Cert.KernelIdeal.Hand

end
-- ==== Proof.RefHost.lean ====
/-
  What the reference's host operations hand to its kernel: the rotated values (a sum of 128 products per element) and the
  power of two's exponent of each group.
-/
module

public import proofs.«01_k».proof.Proof.Gen.ReferenceIdeal.Frame
public import proofs.«01_k».proof.Proof.Signs
public import proofs.«01_k».proof.Proof.Quant
public import Idealize.ShloMosaic.Lib.Pointwise.Reduce
public import Idealize.ShloMosaic.Lib.StableHlo.RunRead
public import Idealize.ShloMosaic.Lib.Pipeline.Frame

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx Cert.Quant

local notation "Vals" => Valuation τ sig (Elt Ideal)

/-- The printed table of words. -/
theorem lit_words : lit0 = Signs.words := by funext k; fin_cases k <;> rfl

/-! ### One stretch at a time -/

theorem s0_v0 (V : Vals) : StableHlo.after hostOps0 V main_v0 = Signs.one := by after_results <;> rfl
theorem s0_cst (V : Vals) : StableHlo.after hostOps0 V main_cst = Signs.base := by
  have h : StableHlo.after hostOps0 V main_cst = fun i => Ideal.ofBits .f32 (lit0 (S2x2.rowMajor i)) := by after_results <;> rfl
  rw [h, lit_words]; rfl
theorem s0_arg0 (V : Vals) : StableHlo.after hostOps0 V main_arg0 = V main_arg0 := by after_results <;> rfl
theorem s1_v1 (V : Vals) : StableHlo.after hostOps0_1 V main_v1 = Signs.kron1V bcast_S1x1_S1x1x1x1_0_2 bcast_S2x2_S1x2x1x2_1_3 bcast_S1x1x1x1_S1x2x1x2_0_1_2_3 shapeCasts_S1x2x1x2_S2x2 (V main_v0) (V main_cst) := by
  after_results <;> rfl
theorem s1_cst (V : Vals) : StableHlo.after hostOps0_1 V main_cst = V main_cst := by after_results <;> rfl
theorem s1_arg0 (V : Vals) : StableHlo.after hostOps0_1 V main_arg0 = V main_arg0 := by after_results <;> rfl
theorem s2_v2 (V : Vals) : StableHlo.after hostOps0_2 V main_v2 = Signs.kronV bcast_S2x2_S2x1x2x1_0_2 bcast_S2x2_S1x2x1x2_1_3 bcast_S2x1x2x1_S2x2x2x2_0_1_2_3 bcast_S1x2x1x2_S2x2x2x2_0_1_2_3 shapeCasts_S2x2x2x2_S4x4 (V main_v1) (V main_cst) := by
  after_results <;> rfl
theorem s2_cst (V : Vals) : StableHlo.after hostOps0_2 V main_cst = V main_cst := by after_results <;> rfl
theorem s2_arg0 (V : Vals) : StableHlo.after hostOps0_2 V main_arg0 = V main_arg0 := by after_results <;> rfl
theorem s3_v3 (V : Vals) : StableHlo.after hostOps0_3 V main_v3 = Signs.kronV bcast_S4x4_S4x1x4x1_0_2 bcast_S2x2_S1x2x1x2_1_3 bcast_S4x1x4x1_S4x2x4x2_0_1_2_3 bcast_S1x2x1x2_S4x2x4x2_0_1_2_3 shapeCasts_S4x2x4x2_S8x8 (V main_v2) (V main_cst) := by
  after_results <;> rfl
theorem s3_cst (V : Vals) : StableHlo.after hostOps0_3 V main_cst = V main_cst := by after_results <;> rfl
theorem s3_arg0 (V : Vals) : StableHlo.after hostOps0_3 V main_arg0 = V main_arg0 := by after_results <;> rfl
theorem s4_v4 (V : Vals) : StableHlo.after hostOps0_4 V main_v4 = Signs.kronV bcast_S8x8_S8x1x8x1_0_2 bcast_S2x2_S1x2x1x2_1_3 bcast_S8x1x8x1_S8x2x8x2_0_1_2_3 bcast_S1x2x1x2_S8x2x8x2_0_1_2_3 shapeCasts_S8x2x8x2_S16x16 (V main_v3) (V main_cst) := by
  after_results <;> rfl
theorem s4_cst (V : Vals) : StableHlo.after hostOps0_4 V main_cst = V main_cst := by after_results <;> rfl
theorem s4_arg0 (V : Vals) : StableHlo.after hostOps0_4 V main_arg0 = V main_arg0 := by after_results <;> rfl
theorem s5_v5 (V : Vals) : StableHlo.after hostOps0_5 V main_v5 = Signs.kronV bcast_S16x16_S16x1x16x1_0_2 bcast_S2x2_S1x2x1x2_1_3 bcast_S16x1x16x1_S16x2x16x2_0_1_2_3 bcast_S1x2x1x2_S16x2x16x2_0_1_2_3 shapeCasts_S16x2x16x2_S32x32 (V main_v4) (V main_cst) := by
  after_results <;> rfl
theorem s5_cst (V : Vals) : StableHlo.after hostOps0_5 V main_cst = V main_cst := by after_results <;> rfl
theorem s5_arg0 (V : Vals) : StableHlo.after hostOps0_5 V main_arg0 = V main_arg0 := by after_results <;> rfl
theorem s6_v6 (V : Vals) : StableHlo.after hostOps0_6 V main_v6 = Signs.kronV bcast_S32x32_S32x1x32x1_0_2 bcast_S2x2_S1x2x1x2_1_3 bcast_S32x1x32x1_S32x2x32x2_0_1_2_3 bcast_S1x2x1x2_S32x2x32x2_0_1_2_3 shapeCasts_S32x2x32x2_S64x64 (V main_v5) (V main_cst) := by
  after_results <;> rfl
theorem s6_cst (V : Vals) : StableHlo.after hostOps0_6 V main_cst = V main_cst := by after_results <;> rfl
theorem s6_arg0 (V : Vals) : StableHlo.after hostOps0_6 V main_arg0 = V main_arg0 := by after_results <;> rfl
theorem s7_v7 (V : Vals) : StableHlo.after hostOps0_7 V main_v7 = Signs.kronV bcast_S64x64_S64x1x64x1_0_2 bcast_S2x2_S1x2x1x2_1_3 bcast_S64x1x64x1_S64x2x64x2_0_1_2_3 bcast_S1x2x1x2_S64x2x64x2_0_1_2_3 shapeCasts_S64x2x64x2_S128x128 (V main_v6) (V main_cst) := by
  after_results <;> rfl
theorem s7_cst (V : Vals) : StableHlo.after hostOps0_7 V main_cst = V main_cst := by after_results <;> rfl
theorem s7_arg0 (V : Vals) : StableHlo.after hostOps0_7 V main_arg0 = V main_arg0 := by after_results <;> rfl

/-- The exponents −125, …, 128 the reference searches. -/
def kvals : FVec Ideal S254 .f32 :=
  addf (broadcastInDim S254 ![] bcast_S_S254 (constant S_ .f32 0xC2FA0000#32)) (sitofp .f32 (iotaInDim S254 32 0))

/-- The rotated values, from the argument and the signs. -/
def rotR (x : FVec Ideal S8x2048x18432 .bf16) (s : FVec Ideal S128x128 .f32) : FVec Ideal S8x2048x144x128 .f32 :=
  Host.dotGeneral dot_S8x2048x144x128_S128x128_S8x2048x144x128_3_0_012_1_n_n (some .fp32)
    (shapeCast S8x2048x144x128 (extf .f32 x bitsLt_bf16_f32) shapeCasts_S8x2048x18432_S8x2048x144x128)
    (mulf s (broadcastInDim S128x128 ![] bcast_S_S128x128 (constant S_ .f32 0x3DB504F3#32)))

/-- Each group's largest magnitude over 448. -/
def tR (v : FVec Ideal S8x2048x144x128 .f32) : FVec Ideal S8x2048x144 .f32 :=
  mulf (Host.reduce FloatOps.maximumf (Host.absf v) (constant S_ .f32 0xFF800000#32) reducesTo_S8x2048x144x128_S8x2048x144_d3 h_S_)
    (broadcastInDim S8x2048x144 ![] bcast_S_S8x2048x144 (constant S_ .f32 0x3B124925#32))

/-- Which powers of two exceed it. -/
def overR (t : FVec Ideal S8x2048x144 .f32) (kv : FVec Ideal S254 .f32) : IVec S8x2048x144x254 1 :=
  cmpf .olt (broadcastInDim S8x2048x144x254 ![0, 1, 2, 3] bcast_S8x2048x144x1_S8x2048x144x254_0_1_2_3
      (broadcastInDim S8x2048x144x1 ![0, 1, 2] bcast_S8x2048x144_S8x2048x144x1_0_1_2 t))
    (broadcastInDim S8x2048x144x254 ![0, 1, 2, 3] bcast_S1x1x1x254_S8x2048x144x254_0_1_2_3
      (broadcastInDim S1x1x1x254 ![3] bcast_S254_S1x1x1x254_3
        (Host.powf (broadcastInDim S254 ![] bcast_S_S254 (constant S_ .f32 0x40000000#32)) kv)))

theorem s8_v12 (V : Vals) : StableHlo.after hostOps0_8 V main_v12 = rotR (V main_arg0) (V main_v7) := by after_results <;> rfl
theorem s8_v16 (V : Vals) : StableHlo.after hostOps0_8 V main_v16 = tR (rotR (V main_arg0) (V main_v7)) := by after_results <;> rfl
theorem s8_v19 (V : Vals) : StableHlo.after hostOps0_8 V main_v19 = kvals := by after_results <;> rfl
theorem s8_v26 (V : Vals) : StableHlo.after hostOps0_8 V main_v26 = overR (tR (rotR (V main_arg0) (V main_v7))) kvals := by after_results <;> rfl
theorem s8_cst6 (V : Vals) : StableHlo.after hostOps0_8 V main_cst_6 = (constant S_ .f32 0x43000000#32 : FVec Ideal S_ .f32) := by after_results <;> rfl

theorem s9_v27 (V : Vals) : StableHlo.after hostOps0_9 V main_v27
    = select (V main_v26) (broadcastInDim S8x2048x144x254 ![3] bcast_S254_S8x2048x144x254_3 (V main_v19))
        (broadcastInDim S8x2048x144x254 ![] bcast_S_S8x2048x144x254 (V main_cst_6)) := by after_results <;> rfl
theorem s9_v16 (V : Vals) : StableHlo.after hostOps0_9 V main_v16 = V main_v16 := by after_results <;> rfl
theorem s9_v12 (V : Vals) : StableHlo.after hostOps0_9 V main_v12 = V main_v12 := by after_results <;> rfl

theorem s10_v28 (V : Vals) : StableHlo.after hostOps0_10 V main_v28
    = Host.reduce (FloatOps.minimumf (F := Ideal) (φ := .f32)) (V main_v27) (constant S_ .f32 0x7F800000#32) reducesTo_S8x2048x144x254_S8x2048x144_d3 h_S_ := by
  after_results <;> rfl
theorem s10_v30 (V : Vals) : StableHlo.after hostOps0_10 V main_v30
    = cmpf (F := Ideal) (φ := .f32) .olt (V main_v16) (broadcastInDim S8x2048x144 ![] bcast_S_S8x2048x144 (constant S_ .f32 0x00800000#32)) := by
  after_results <;> rfl
theorem s10_cst9 (V : Vals) : StableHlo.after hostOps0_10 V main_cst_9 = (constant S_ .f32 0x00000000#32 : FVec Ideal S_ .f32) := by after_results <;> rfl
theorem s10_v12 (V : Vals) : StableHlo.after hostOps0_10 V main_v12 = V main_v12 := by after_results <;> rfl

theorem s11_v31 (V : Vals) : StableHlo.after hostOps0_11 V main_v31
    = select (V main_v30) (broadcastInDim S8x2048x144 ![] bcast_S_S8x2048x144 (V main_cst_9)) (V main_v28) := by after_results <;> rfl
theorem s11_v12 (V : Vals) : StableHlo.after hostOps0_11 V main_v12 = V main_v12 := by after_results <;> rfl

/-! ### All of them -/

/-- The exponent of each group, from the scaled largest magnitudes. -/
def expR (t : FVec Ideal S8x2048x144 .f32) : FVec Ideal S8x2048x144 .f32 :=
  select (cmpf .olt t (broadcastInDim S8x2048x144 ![] bcast_S_S8x2048x144 (constant S_ .f32 0x00800000#32)))
    (broadcastInDim S8x2048x144 ![] bcast_S_S8x2048x144 (constant S_ .f32 0x00000000#32))
    (Host.reduce FloatOps.minimumf
      (select (overR t kvals) (broadcastInDim S8x2048x144x254 ![3] bcast_S254_S8x2048x144x254_3 kvals)
        (broadcastInDim S8x2048x144x254 ![] bcast_S_S8x2048x144x254 (constant S_ .f32 0x43000000#32)) : FVec Ideal S8x2048x144x254 .f32)
      (constant S_ .f32 0x7F800000#32) reducesTo_S8x2048x144x254_S8x2048x144_d3 h_S_)

variable (m : (ℓ : Loc nD τ sig) → Buf (Elt Ideal) ℓ) (c : Dev nD)

/-- The contents after the products of signs. -/
def U8 : Vals := StableHlo.after hostOps0_7 (StableHlo.after hostOps0_6 (StableHlo.after hostOps0_5 (StableHlo.after hostOps0_4
  (StableHlo.after hostOps0_3 (StableHlo.after hostOps0_2 (StableHlo.after hostOps0_1 (StableHlo.after hostOps0 (fun b => m (c, b)))))))))

theorem U8_v7 : U8 m c main_v7 = Signs.signs := by
  unfold U8
  rw [s7_v7, s6_v6, s6_cst, s5_v5, s5_cst, s4_v4, s4_cst, s3_v3, s3_cst, s2_v2, s2_cst, s1_v1, s1_cst, s0_v0, s0_cst]
  rfl

theorem U8_arg0 : U8 m c main_arg0 = m ((c : Thread nD τ).loc main_arg0) := by
  unfold U8
  rw [s7_arg0, s6_arg0, s5_arg0, s4_arg0, s3_arg0, s2_arg0, s1_arg0, s0_arg0]

theorem V0_eq : V0 m c = StableHlo.after hostOps0_11 (StableHlo.after hostOps0_10 (StableHlo.after hostOps0_9 (StableHlo.after hostOps0_8 (U8 m c)))) := by
  unfold V0 U8
  simp only [List.flatten_cons, List.flatten_nil, StableHlo.after_append, StableHlo.after_nil]

/-- The rotated values the kernel is handed. -/
theorem V_v12 : V m c main_v12 = rotR (m ((c : Thread nD τ).loc main_arg0)) Signs.signs := by
  show V0 m c (Proc.devRef .tc main_v12) = _
  rw [V0_eq, s11_v12, s10_v12, s9_v12, s8_v12, U8_v7, U8_arg0]

/-- The exponents it is handed. -/
theorem V_v31 : V m c main_v31 = expR (tR (rotR (m ((c : Thread nD τ).loc main_arg0)) Signs.signs)) := by
  show V0 m c (Proc.devRef .tc main_v31) = _
  rw [V0_eq, s11_v31, s10_v30, s10_v28, s10_cst9, s9_v16, s9_v27, s8_v26, s8_v16, s8_v19, s8_cst6, U8_v7, U8_arg0]
  rfl

end Cert.ReferenceIdeal.Hand

end
-- ==== Proof.RefIndex.lean ====
/-
  The reference's host values, index by index.
-/
module

public import proofs.«01_k».proof.Proof.RefHost
public import proofs.«01_k».proof.Proof.Rows

@[expose] public section

set_option maxRecDepth 16384

noncomputable section

namespace Cert.ReferenceIdeal.Hand

open Cert.ReferenceIdeal Cert.ReferenceIdeal.Gen
open Idealize.ShloMosaic hiding ix0 ix1 ix2 ix3 ix4 ix5
open Idealize.ShloMosaic.TcCoe Idealize.ShloMosaic.ValueIdx Cert.Quant Cert.Rows

/-- The dimension numbers of the rotation of every group. -/
abbrev dotR := dot_S8x2048x144x128_S128x128_S8x2048x144x128_3_0_012_1_n_n

theorem lhs_0 (i : S8x2048x144x128.Idx) (q : (dotR).contr.Idx) : ((dotR).lhsIdx i q 0).val = (i 0).val := by
  unfold DotDims.lhsIdx
  rw [dif_neg (show ¬(0 : Fin S8x2048x144x128.rank) ∈ (dotR).lhsBatch by decide), dif_pos (show (0 : Fin S8x2048x144x128.rank) ∈ (dotR).lhsNonContracting by decide)]
  rfl
theorem lhs_1 (i : S8x2048x144x128.Idx) (q : (dotR).contr.Idx) : ((dotR).lhsIdx i q 1).val = (i 1).val := by
  unfold DotDims.lhsIdx
  rw [dif_neg (show ¬(1 : Fin S8x2048x144x128.rank) ∈ (dotR).lhsBatch by decide), dif_pos (show (1 : Fin S8x2048x144x128.rank) ∈ (dotR).lhsNonContracting by decide)]
  rfl
theorem lhs_2 (i : S8x2048x144x128.Idx) (q : (dotR).contr.Idx) : ((dotR).lhsIdx i q 2).val = (i 2).val := by
  unfold DotDims.lhsIdx
  rw [dif_neg (show ¬(2 : Fin S8x2048x144x128.rank) ∈ (dotR).lhsBatch by decide), dif_pos (show (2 : Fin S8x2048x144x128.rank) ∈ (dotR).lhsNonContracting by decide)]
  rfl
theorem lhs_3 (i : S8x2048x144x128.Idx) (q : (dotR).contr.Idx) : ((dotR).lhsIdx i q 3).val = (q ⟨0, by decide⟩).val :=
  (dotR).lhsIdx_val_of_single rfl i q
theorem rhs_0 (i : S8x2048x144x128.Idx) (q : (dotR).contr.Idx) : ((dotR).rhsIdx i q 0).val = (q ⟨0, by decide⟩).val :=
  (dotR).rhsIdx_val_of_single rfl i q
theorem rhs_1 (i : S8x2048x144x128.Idx) (q : (dotR).contr.Idx) : ((dotR).rhsIdx i q 1).val = (i 3).val := by
  unfold DotDims.rhsIdx
  rw [dif_neg (show ¬(1 : Fin S128x128.rank) ∈ (dotR).rhsBatch by decide), dif_pos (show (1 : Fin S128x128.rank) ∈ (dotR).rhsNonContracting by decide)]
  rfl

/-- The product of every group with a 128 × 128 matrix. -/
theorem dotR_apply (x : FVec Ideal S8x2048x144x128 .f32) (h : FVec Ideal S128x128 .f32) (b : Fin 8) (s : Fin 2048) (g : Fin 144) (j : Fin 128) :
    Host.dotGeneral dotR (some .fp32) x h (ix4 b s g j) = ∑ k : Fin 128, (x (ix4 b s g k) : EReal) * h (ix2 k j) := by
  simp only [Host.dotGeneral]
  rw [Ideal.dotGeneral_apply, ← Equiv.sum_comp (ValueIdx.contrEquiv1 dotR 128 rfl rfl).symm]
  refine Finset.sum_congr rfl fun k _ => ?_
  have hk := ValueIdx.contrEquiv1_symm_val dotR 128 rfl rfl k
  have el : (dotR).lhsIdx (ix4 b s g j) ((ValueIdx.contrEquiv1 dotR 128 rfl rfl).symm k) = ix4 b s g k := funext fun a => Fin.ext (by
    match a with
    | ⟨0, _⟩ => exact lhs_0 _ _
    | ⟨1, _⟩ => exact lhs_1 _ _
    | ⟨2, _⟩ => exact lhs_2 _ _
    | ⟨3, _⟩ => exact (lhs_3 _ _).trans hk)
  have er : (dotR).rhsIdx (ix4 b s g j) ((ValueIdx.contrEquiv1 dotR 128 rfl rfl).symm k) = ix2 k j := funext fun a => Fin.ext (by
    match a with
    | ⟨0, _⟩ => exact (rhs_0 _ _).trans hk
    | ⟨1, _⟩ => exact rhs_1 _ _)
  rw [el, er]

/-- The rotated values: group `g`'s 128 values against column `j`. -/
theorem rotR_apply (x : FVec Ideal S8x2048x18432 .bf16) (S : FVec Ideal S128x128 .f32) (b : Fin 8) (s : Fin 2048) (g : Fin 144) (j : Fin 128) :
    rotR x S (ix4 b s g j) = rRow (fun k => x (ix3 b s ⟨128 * g.val + k.val, by omega⟩)) S j := by
  unfold rotR rRow
  rw [dotR_apply]
  refine Finset.sum_congr rfl fun k _ => congrArg₂ (· * ·) ?_ ?_
  · rw [shapeCast_apply _ shapeCasts_S8x2048x18432_S8x2048x144x128 (ix4 b s g k) (ix3 b s (⟨128 * g.val + k.val, by omega⟩ : Fin 18432))
      (by rw [Shape.rowMajor_val_three, Shape.rowMajor_val_four]
          show (b.val * 2048 + s.val) * 18432 + (128 * g.val + k.val) = ((b.val * 2048 + s.val) * 144 + g.val) * 128 + k.val
          omega)]
    rfl
  · rw [mulf_apply, broadcastInDim_scalar_apply]
    rfl

/-- Each group's largest magnitude over 448. -/
theorem tR_apply (v : FVec Ideal S8x2048x144x128 .f32) (b : Fin 8) (s : Fin 2048) (g : Fin 144) :
    tR v (ix3 b s g) = tOf (fun k => v (ix4 b s g k)) := by
  unfold tR tOf
  rw [mulf_apply, broadcastInDim_scalar_apply]
  refine congrArg (· * Ideal.ofBits .f32 0x3B124925#32) ?_
  refine (Host.reduce_eq_fold _ _ _ _ _ _).trans ?_
  exact Shape.ReducesTo.fold_fiber_r4_a3 reducesTo_S8x2048x144x128_S8x2048x144_d3 (ix3 b s g) _ _ _

/-- The exponents searched are −125, …, 128. -/
theorem kvals_apply (j : Fin 254) : kvals (ix1 j) = (((j.val : ℝ) - 125 : ℝ) : EReal) := by
  unfold kvals
  rw [addf_apply, broadcastInDim_scalar_apply]
  have h : Ideal.ofBits .f32 0xC2FA0000#32 = ((-125 : ℝ) : EReal) := by
    simp [Ideal.ofBits, Ideal.ieee, -EReal.coe_mul]; norm_num
  show Ideal.ofBits .f32 0xC2FA0000#32 + (((BitVec.ofNat 32 j.val).toInt : ℝ) : EReal) = _
  have hj : (BitVec.ofNat 32 j.val).toInt = (j.val : ℤ) := by
    have := j.isLt
    rw [BitVec.toInt_eq_toNat_of_lt (by rw [BitVec.toNat_ofNat]; omega), BitVec.toNat_ofNat]; omega
  rw [h, hj, ← EReal.coe_add]
  congr 1
  push_cast; ring

theorem ofBits_top : Ideal.ofBits .f32 0x7F800000#32 = ⊤ := by
  simp [Ideal.ofBits, Ideal.ieee]

theorem overR_apply (t : FVec Ideal S8x2048x144 .f32) (kv : FVec Ideal S254 .f32) (b : Fin 8) (s : Fin 2048) (g : Fin 144) (j : Fin 254) :
    overR t kv (ix4 b s g j) = FloatOps.cmpf (F := Ideal) (φ := .f32) .olt (t (ix3 b s g)) (Ideal.pow (Ideal.ofBits .f32 0x40000000#32) (kv (ix1 j))) := by
  unfold overR
  show FloatOps.cmpf (F := Ideal) (φ := .f32) .olt _ _ = _
  congr 1
  · rw [broadcastInDim_apply _ bcast_S8x2048x144x1_S8x2048x144x254_0_1_2_3 _ (ix4 b s g j) (ix4 b s g (0 : Fin 1))
        (fun a => by match a with | ⟨0, _⟩ => rfl | ⟨1, _⟩ => rfl | ⟨2, _⟩ => rfl | ⟨3, _⟩ => rfl),
      broadcastInDim_apply _ bcast_S8x2048x144_S8x2048x144x1_0_1_2 _ (ix4 b s g (0 : Fin 1)) (ix3 b s g)
        (fun a => by match a with | ⟨0, _⟩ => rfl | ⟨1, _⟩ => rfl | ⟨2, _⟩ => rfl)]
  · rw [broadcastInDim_apply _ bcast_S1x1x1x254_S8x2048x144x254_0_1_2_3 _ (ix4 b s g j) (ix4 (0 : Fin 1) (0 : Fin 1) (0 : Fin 1) j)
        (fun a => by match a with | ⟨0, _⟩ => rfl | ⟨1, _⟩ => rfl | ⟨2, _⟩ => rfl | ⟨3, _⟩ => rfl),
      broadcastInDim_apply _ bcast_S254_S1x1x1x254_3 _ (ix4 (0 : Fin 1) (0 : Fin 1) (0 : Fin 1) j) (ix1 j)
        (fun a => by match a with | ⟨0, _⟩ => rfl)]
    rfl

/-- The exponent of each group. -/
theorem expR_apply (t : FVec Ideal S8x2048x144 .f32) (b : Fin 8) (s : Fin 2048) (g : Fin 144) :
    expR t (ix3 b s g) = refE (fun j => kvals (ix1 j)) (t (ix3 b s g)) := by
  unfold expR refE
  rw [select_apply]
  refine congrArg₂ (Scalar.select _) rfl ?_
  refine (Host.reduce_eq_fold _ _ _ _ _ _).trans ?_
  refine (Shape.ReducesTo.fold_fiber_r4_a3 reducesTo_S8x2048x144x254_S8x2048x144_d3 (ix3 b s g) _ _ _).trans ?_
  show Finset.univ.fold min (Ideal.ofBits .f32 0x7F800000#32) _ = _
  rw [ofBits_top]
  refine congrArg (Finset.fold min ⊤ · Finset.univ) (funext fun j => ?_)
  show select _ _ _ (ix4 b s g j) = _
  rw [select_apply, overR_apply, broadcastInDim_apply _ bcast_S254_S8x2048x144x254_3 _ (ix4 b s g j) (ix1 j)
        (fun a => by match a with | ⟨0, _⟩ => rfl), broadcastInDim_scalar_apply]
  rfl

end Cert.ReferenceIdeal.Hand

end
-- ==== Proof.RefPay.lean ====
/-
  What the reference's kernel computes from its operands, index by index: the codes, the scales and the dequantised values.
-/
module

public import proofs.«01_k».proof.Proof.Gen.ReferenceIdeal.Run
public import Idealize.ShloMosaic.PureOps
public import Idealize.ShloMosaic.PureOps.Ideal.Laws
public import Idealize.ShloMosaic.Lib.Pipeline.Value
public import Idealize.ShloMosaic.Lib.ValueLayout
public import proofs.«01_k».proof.Proof.Quant

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Cert.Quant
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A value per group spread over the group's 128 elements. -/
theorem spread_apply {α : Type} (x : S8x2048x144.Idx → α) (b : Fin 8) (s : Fin 2048) (g : Fin 144) (j : Fin 128) :
    broadcastTo S8x2048x144x128 (shapeCast S8x2048x144x1 x shapeCasts_S8x2048x144_S8x2048x144x1) broadcasts_S8x2048x144x1_S8x2048x144x128
      (ix4 b s g j) = x (ix3 b s g) := by
  rw [broadcastTo_apply _ _ (ix4 b s g j) (ix4 b s g (0 : Fin 1)) fun a => match a with
    | ⟨0, _⟩ => rfl | ⟨1, _⟩ => rfl | ⟨2, _⟩ => rfl | ⟨3, _⟩ => rfl]
  exact shapeCast_apply _ _ (ix4 b s g (0 : Fin 1)) (ix3 b s g)
    (by rw [Shape.rowMajor_val_three, Shape.rowMajor_val_four]
        show (b.val * 2048 + s.val) * 144 + g.val = ((b.val * 2048 + s.val) * 144 + g.val) * 1 + 0
        omega)

theorem pay1_apply (e : Vec Ideal S8x2048x144 .f32) (i : S8x2048x144.Idx) : k0_pay1 (F := Ideal) e i = Ideal.exp2 (e i) := by
  unfold k0_pay1
  rw [shapeCast_self]
  rfl

theorem pay2_apply (e : Vec Ideal S8x2048x144 .f32) (v : Vec Ideal S8x2048x144x128 .f32) (b : Fin 8) (s : Fin 2048) (g : Fin 144) (j : Fin 128) :
    k0_pay2 (F := Ideal) e v (ix4 b s g j)
      = clip (v (ix4 b s g j)) (Ideal.exp2 (Ideal.ofBits .f32 0x00000000#32 - e (ix3 b s g))) := by
  unfold k0_pay2 clip
  rw [shapeCast_self, shapeCast_self, truncf_apply, minimumf_apply, maximumf_apply, mulf_apply, spread_apply]
  rfl

theorem pay3_apply (e : Vec Ideal S8x2048x144 .f32) (v : Vec Ideal S8x2048x144x128 .f32) (b : Fin 8) (s : Fin 2048) (g : Fin 144) (j : Fin 128) :
    k0_pay3 (F := Ideal) e e v (ix4 b s g j)
      = clip (v (ix4 b s g j)) (Ideal.exp2 (Ideal.ofBits .f32 0x00000000#32 - e (ix3 b s g))) * Ideal.exp2 (e (ix3 b s g)) := by
  unfold k0_pay3
  rw [mulf_apply, extf_apply, pay2_apply, spread_apply, truncf_apply, pay1_apply]

/-! ### The stored blocks -/

theorem out3_eq (x0 : Vec Ideal S8x2048x144x128 .f32) (x1 : Vec Ideal S8x2048x144 .f32) (x2 : Vec Ideal S18432x7168 .fp8e4m3) :
    out0_3 (F := Ideal) x0 x1 x2 = k0_pay2 x1 x0 := by
  unfold out0_3
  rw [View.canon_unit_zero hz4, View.ld_unit_zero hz3, View.ld_unit_zero hz4]
theorem out4_eq (x0 : Vec Ideal S8x2048x144x128 .f32) (x1 : Vec Ideal S8x2048x144 .f32) (x2 : Vec Ideal S18432x7168 .fp8e4m3) :
    out0_4 (F := Ideal) x0 x1 x2 = k0_pay1 x1 := by
  unfold out0_4
  rw [View.canon_unit_zero hz3, View.ld_unit_zero hz3]
theorem out5_eq (x0 : Vec Ideal S8x2048x144x128 .f32) (x1 : Vec Ideal S8x2048x144 .f32) (x2 : Vec Ideal S18432x7168 .fp8e4m3) :
    out0_5 (F := Ideal) x0 x1 x2 = k0_pay3 x1 x1 x0 := by
  unfold out0_5
  rw [View.canon_unit_zero hz4, View.ld_unit_zero hz3, View.ld_unit_zero hz4]
theorem out6_eq (x0 : Vec Ideal S8x2048x144x128 .f32) (x1 : Vec Ideal S8x2048x144 .f32) (x2 : Vec Ideal S18432x7168 .fp8e4m3) :
    out0_6 (F := Ideal) x0 x1 x2 = k0_pay4 x2 := by
  unfold out0_6
  rw [View.canon_unit_zero hz2, View.ld_unit_zero hz2]

end Cert.ReferenceIdeal.Hand

end
-- ==== Proof.RefWin.lean ====
/-
  The windows of the reference's kernel, which runs once on whole arrays: each window is its array.
-/
module

public import proofs.«01_k».proof.Proof.Gen.ReferenceIdeal.Run
public import Idealize.ShloMosaic.PureOps
public import Idealize.ShloMosaic.PureOps.Ideal.Laws
public import Idealize.ShloMosaic.Lib.Pipeline.Value
public import Idealize.ShloMosaic.Lib.ValueLayout
public import proofs.«01_k».proof.Proof.Quant

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Cert.Quant
open Idealize.ShloMosaic.Pipeline (Dat Cfg Window)

/-- Every window of the reference's kernel is its whole array. -/
theorem idx0_0 : ∀ t : Fin cfg0.N, ∀ a : Fin 4, win0_0.index t a = 0 := (by decide +kernel : ∀ t : Fin grid0.N, _)
theorem idx0_1 : ∀ t : Fin cfg0.N, ∀ a : Fin 3, win0_1.index t a = 0 := (by decide +kernel : ∀ t : Fin grid0.N, _)
theorem idx0_2 : ∀ t : Fin cfg0.N, ∀ a : Fin 2, win0_2.index t a = 0 := (by decide +kernel : ∀ t : Fin grid0.N, _)
theorem idx0_3 : ∀ t : Fin cfg0.N, ∀ a : Fin 4, win0_3.index t a = 0 := (by decide +kernel : ∀ t : Fin grid0.N, _)
theorem idx0_4 : ∀ t : Fin cfg0.N, ∀ a : Fin 3, win0_4.index t a = 0 := (by decide +kernel : ∀ t : Fin grid0.N, _)
theorem idx0_5 : ∀ t : Fin cfg0.N, ∀ a : Fin 4, win0_5.index t a = 0 := (by decide +kernel : ∀ t : Fin grid0.N, _)
theorem idx0_6 : ∀ t : Fin cfg0.N, ∀ a : Fin 2, win0_6.index t a = 0 := (by decide +kernel : ∀ t : Fin grid0.N, _)

theorem emb0 (t : Fin cfg0.N) (y : S8x2048x144x128.Idx) : (((cfg0.win 0).blk t).view.emb y : S8x2048x144x128.Idx) = y := by
  funext a; apply Fin.ext
  match a with
  | ⟨0, _⟩ => show win0_0.index t (0 : Fin 4) * 8 + 1 * (y 0).val = (y 0).val; rw [idx0_0]; omega
  | ⟨1, _⟩ => show win0_0.index t (1 : Fin 4) * 2048 + 1 * (y 1).val = (y 1).val; rw [idx0_0]; omega
  | ⟨2, _⟩ => show win0_0.index t (2 : Fin 4) * 144 + 1 * (y 2).val = (y 2).val; rw [idx0_0]; omega
  | ⟨3, _⟩ => show win0_0.index t (3 : Fin 4) * 128 + 1 * (y 3).val = (y 3).val; rw [idx0_0]; omega
theorem emb1 (t : Fin cfg0.N) (y : S8x2048x144.Idx) : (((cfg0.win 1).blk t).view.emb y : S8x2048x144.Idx) = y := by
  funext a; apply Fin.ext
  match a with
  | ⟨0, _⟩ => show win0_1.index t (0 : Fin 3) * 8 + 1 * (y 0).val = (y 0).val; rw [idx0_1]; omega
  | ⟨1, _⟩ => show win0_1.index t (1 : Fin 3) * 2048 + 1 * (y 1).val = (y 1).val; rw [idx0_1]; omega
  | ⟨2, _⟩ => show win0_1.index t (2 : Fin 3) * 144 + 1 * (y 2).val = (y 2).val; rw [idx0_1]; omega
theorem emb2 (t : Fin cfg0.N) (y : S18432x7168.Idx) : (((cfg0.win 2).blk t).view.emb y : S18432x7168.Idx) = y := by
  funext a; apply Fin.ext
  match a with
  | ⟨0, _⟩ => show win0_2.index t (0 : Fin 2) * 18432 + 1 * (y 0).val = (y 0).val; rw [idx0_2]; omega
  | ⟨1, _⟩ => show win0_2.index t (1 : Fin 2) * 7168 + 1 * (y 1).val = (y 1).val; rw [idx0_2]; omega
theorem emb3 (t : Fin cfg0.N) (y : S8x2048x144x128.Idx) : (((cfg0.win 3).blk t).view.emb y : S8x2048x144x128.Idx) = y := by
  funext a; apply Fin.ext
  match a with
  | ⟨0, _⟩ => show win0_3.index t (0 : Fin 4) * 8 + 1 * (y 0).val = (y 0).val; rw [idx0_3]; omega
  | ⟨1, _⟩ => show win0_3.index t (1 : Fin 4) * 2048 + 1 * (y 1).val = (y 1).val; rw [idx0_3]; omega
  | ⟨2, _⟩ => show win0_3.index t (2 : Fin 4) * 144 + 1 * (y 2).val = (y 2).val; rw [idx0_3]; omega
  | ⟨3, _⟩ => show win0_3.index t (3 : Fin 4) * 128 + 1 * (y 3).val = (y 3).val; rw [idx0_3]; omega
theorem emb4 (t : Fin cfg0.N) (y : S8x2048x144.Idx) : (((cfg0.win 4).blk t).view.emb y : S8x2048x144.Idx) = y := by
  funext a; apply Fin.ext
  match a with
  | ⟨0, _⟩ => show win0_4.index t (0 : Fin 3) * 8 + 1 * (y 0).val = (y 0).val; rw [idx0_4]; omega
  | ⟨1, _⟩ => show win0_4.index t (1 : Fin 3) * 2048 + 1 * (y 1).val = (y 1).val; rw [idx0_4]; omega
  | ⟨2, _⟩ => show win0_4.index t (2 : Fin 3) * 144 + 1 * (y 2).val = (y 2).val; rw [idx0_4]; omega
theorem emb5 (t : Fin cfg0.N) (y : S8x2048x144x128.Idx) : (((cfg0.win 5).blk t).view.emb y : S8x2048x144x128.Idx) = y := by
  funext a; apply Fin.ext
  match a with
  | ⟨0, _⟩ => show win0_5.index t (0 : Fin 4) * 8 + 1 * (y 0).val = (y 0).val; rw [idx0_5]; omega
  | ⟨1, _⟩ => show win0_5.index t (1 : Fin 4) * 2048 + 1 * (y 1).val = (y 1).val; rw [idx0_5]; omega
  | ⟨2, _⟩ => show win0_5.index t (2 : Fin 4) * 144 + 1 * (y 2).val = (y 2).val; rw [idx0_5]; omega
  | ⟨3, _⟩ => show win0_5.index t (3 : Fin 4) * 128 + 1 * (y 3).val = (y 3).val; rw [idx0_5]; omega
theorem emb6 (t : Fin cfg0.N) (y : S18432x7168.Idx) : (((cfg0.win 6).blk t).view.emb y : S18432x7168.Idx) = y := by
  funext a; apply Fin.ext
  match a with
  | ⟨0, _⟩ => show win0_6.index t (0 : Fin 2) * 18432 + 1 * (y 0).val = (y 0).val; rw [idx0_6]; omega
  | ⟨1, _⟩ => show win0_6.index t (1 : Fin 2) * 7168 + 1 * (y 1).val = (y 1).val; rw [idx0_6]; omega

variable (m : (ℓ : Loc nD τ sig) → Buf (Elt Ideal) ℓ) (c : Dev nD)

theorem read_0 (U : (b : Ref sig .tc) → Buf (Elt Ideal) ((c : Thread nD τ).loc b)) (t : Fin cfg0.N) :
    (((cfg0.win 0).blk t).view.read (Elt Ideal) (U (Pipeline.arrRef spec0 0)) : S8x2048x144x128.Idx → EReal) = U main_v12 := by
  funext y
  show U main_v12 (((cfg0.win 0).blk t).view.emb y) = _
  exact congrArg (U main_v12) (emb0 t y)
theorem read_1 (U : (b : Ref sig .tc) → Buf (Elt Ideal) ((c : Thread nD τ).loc b)) (t : Fin cfg0.N) :
    (((cfg0.win 1).blk t).view.read (Elt Ideal) (U (Pipeline.arrRef spec0 1)) : S8x2048x144.Idx → EReal) = U main_v31 := by
  funext y
  show U main_v31 (((cfg0.win 1).blk t).view.emb y) = _
  exact congrArg (U main_v31) (emb1 t y)
theorem read_2 (U : (b : Ref sig .tc) → Buf (Elt Ideal) ((c : Thread nD τ).loc b)) (t : Fin cfg0.N) :
    (((cfg0.win 2).blk t).view.read (Elt Ideal) (U (Pipeline.arrRef spec0 2)) : S18432x7168.Idx → EReal) = U main_arg1 := by
  funext y
  show U main_arg1 (((cfg0.win 2).blk t).view.emb y) = _
  exact congrArg (U main_arg1) (emb2 t y)

theorem iblk_0 (t : Fin cfg0.N) : (iblk m c 0 t : S8x2048x144x128.Idx → EReal) = V m c main_v12 := by
  unfold iblk; exact read_0 c (V m c) t
theorem iblk_1 (t : Fin cfg0.N) : (iblk m c 1 t : S8x2048x144.Idx → EReal) = V m c main_v31 := by
  unfold iblk; exact read_1 c (V m c) t
theorem iblk_2 (t : Fin cfg0.N) : (iblk m c 2 t : S18432x7168.Idx → EReal) = V m c main_arg1 := by
  unfold iblk; exact read_2 c (V m c) t

end Cert.ReferenceIdeal.Hand

end
-- ==== Proof.RefBlocks.lean ====
/-
  What the reference's kernel leaves in its four result arrays, index by index, from its three operands: the codes, the
  scales, the dequantised values and the second matrix unchanged.
-/
module

public import proofs.«01_k».proof.Proof.Gen.ReferenceIdeal.Run
public import Idealize.ShloMosaic.PureOps
public import Idealize.ShloMosaic.PureOps.Ideal.Laws
public import Idealize.ShloMosaic.Lib.Pipeline.Value
public import Idealize.ShloMosaic.Lib.ValueLayout
public import proofs.«01_k».proof.Proof.RefPay
public import proofs.«01_k».proof.Proof.RefWin

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Cert.Quant
open Idealize.ShloMosaic.Pipeline (Dat Cfg Window)

variable (m : (ℓ : Loc nD τ sig) → Buf (Elt Ideal) ℓ) (c : Dev nD)

/-- The point of the grid. -/
def pt : Fin cfg0.N := ⟨0, by decide⟩

/-- The codes. -/
theorem flushed3 (t : Fin cfg0.N) : (dats m 0 c).flushed 3 t
    = ((cfg0.win 3).blk t).view.read (Elt Ideal) (k0_pay2 (F := Ideal) (V m c main_v31) (V m c main_v12)) := by
    show win0_3.cut (grid0.coords t) ((dats m 0 c).after 3 t) = _
    rw [after0_3, out3_eq, iblk_0, iblk_1]
    generalize V m c main_v12 = v
    generalize V m c main_v31 = e
    funext y
    rw [View.read_apply, cast_eq]
    show k0_pay2 (F := Ideal) e v (win0_3.xinj (grid0.coords t) y) = _
    refine congrArg (k0_pay2 (F := Ideal) e v) ?_
    exact (emb3 t y).symm

/-- The codes the region leaves, of the whole arrays it was given. -/
theorem arr3 : (dats m 0 c).arrAt 3 cfg0.N = k0_pay2 (F := Ideal) (V m c main_v31) (V m c main_v12) := by
  refine (dats m 0 c).arrAt_eq_of_cover 3 _ (fun t _ => flushed3 m c t) fun i => ⟨pt, flush0_3 _, ?_⟩
  have h := ((cfg0.win 3).blk pt).view.emb_mem_set i
  have he := emb3 pt i
  exact he ▸ h

/-- The scales. -/
theorem flushed4 (t : Fin cfg0.N) : (dats m 0 c).flushed 4 t
    = ((cfg0.win 4).blk t).view.read (Elt Ideal) (k0_pay1 (F := Ideal) (V m c main_v31)) := by
    show win0_4.cut (grid0.coords t) ((dats m 0 c).after 4 t) = _
    rw [after0_4, out4_eq, iblk_1]
    generalize V m c main_v31 = e
    funext y
    rw [View.read_apply, cast_eq]
    show k0_pay1 (F := Ideal) e (win0_4.xinj (grid0.coords t) y) = _
    refine congrArg (k0_pay1 (F := Ideal) e) ?_
    exact (emb4 t y).symm

/-- The scales the region leaves, of the whole arrays it was given. -/
theorem arr4 : (dats m 0 c).arrAt 4 cfg0.N = k0_pay1 (F := Ideal) (V m c main_v31) := by
  refine (dats m 0 c).arrAt_eq_of_cover 4 _ (fun t _ => flushed4 m c t) fun i => ⟨pt, flush0_4 _, ?_⟩
  have h := ((cfg0.win 4).blk pt).view.emb_mem_set i
  have he := emb4 pt i
  exact he ▸ h

/-- The dequantised values. -/
theorem flushed5 (t : Fin cfg0.N) : (dats m 0 c).flushed 5 t
    = ((cfg0.win 5).blk t).view.read (Elt Ideal) (k0_pay3 (F := Ideal) (V m c main_v31) (V m c main_v31) (V m c main_v12)) := by
    show win0_5.cut (grid0.coords t) ((dats m 0 c).after 5 t) = _
    rw [after0_5, out5_eq, iblk_0, iblk_1]
    generalize V m c main_v12 = v
    generalize V m c main_v31 = e
    funext y
    rw [View.read_apply, cast_eq]
    show k0_pay3 (F := Ideal) e e v (win0_5.xinj (grid0.coords t) y) = _
    refine congrArg (k0_pay3 (F := Ideal) e e v) ?_
    exact (emb5 t y).symm

/-- The decoded values the region leaves, of the whole arrays it was given. -/
theorem arr5 : (dats m 0 c).arrAt 5 cfg0.N = k0_pay3 (F := Ideal) (V m c main_v31) (V m c main_v31) (V m c main_v12) := by
  refine (dats m 0 c).arrAt_eq_of_cover 5 _ (fun t _ => flushed5 m c t) fun i => ⟨pt, flush0_5 _, ?_⟩
  have h := ((cfg0.win 5).blk pt).view.emb_mem_set i
  have he := emb5 pt i
  exact he ▸ h

/-- The second matrix. -/
theorem flushed6 (t : Fin cfg0.N) : (dats m 0 c).flushed 6 t
    = ((cfg0.win 6).blk t).view.read (Elt Ideal) (k0_pay4 (F := Ideal) (V m c main_arg1)) := by
    show win0_6.cut (grid0.coords t) ((dats m 0 c).after 6 t) = _
    rw [after0_6, out6_eq, iblk_2]
    generalize V m c main_arg1 = w
    funext y
    rw [View.read_apply, cast_eq]
    show k0_pay4 (F := Ideal) w (win0_6.xinj (grid0.coords t) y) = _
    refine congrArg (k0_pay4 (F := Ideal) w) ?_
    exact (emb6 t y).symm

/-- The weights the region leaves, of the whole arrays it was given. -/
theorem arr6 : (dats m 0 c).arrAt 6 cfg0.N = k0_pay4 (F := Ideal) (V m c main_arg1) := by
  refine (dats m 0 c).arrAt_eq_of_cover 6 _ (fun t _ => flushed6 m c t) fun i => ⟨pt, flush0_6 _, ?_⟩
  have h := ((cfg0.win 6).blk pt).view.emb_mem_set i
  have he := emb6 pt i
  exact he ▸ h

end Cert.ReferenceIdeal.Hand

end
-- ==== Proof.RefVals.lean ====
/-
  The reference's three results, index by index, equal the same functions of the arguments when every value of the first
  argument is finite.
-/
module

public import proofs.«01_k».proof.Proof.RefIndex
public import proofs.«01_k».proof.Proof.RefBlocks
public import proofs.«01_k».proof.Proof.RefPay
public import proofs.«01_k».proof.Proof.Gen.ReferenceIdeal.Read

@[expose] public section

set_option maxRecDepth 16384

noncomputable section

namespace Cert.ReferenceIdeal.Hand

open Cert.ReferenceIdeal Cert.ReferenceIdeal.Gen
open Idealize.ShloMosaic hiding ix0 ix1 ix2 ix3 ix4 ix5
open Idealize.ShloMosaic.TcCoe Idealize.ShloMosaic.ValueIdx Cert.Quant Cert.Rows

/-- Every value is a real of magnitude at most 2¹²⁸. -/
def Fin128 (x : S8x2048x18432.Idx → EReal) : Prop := ∀ i, ∃ r : ℝ, x i = (r : EReal) ∧ |r| ≤ 2 ^ 128

variable (x : FVec Ideal S8x2048x18432 .bf16)

/-- The rotated group. -/
theorem rot_row (hx : Fin128 x) (b : Fin 8) (s : Fin 2048) (g : Fin 144) (j : Fin 128) :
    rotR x Signs.signs (ix4 b s g j) = kRow (grp x b s g) Signs.signs j :=
  (rotR_apply x Signs.signs b s g j).trans
    (congrFun (row_eq (grp x b s g) Signs.signs_pm (2 ^ 128) (fun _ => hx _)) j)

/-- The group's exponent gives the kernel's scale and its reciprocal. -/
theorem exp_row (hx : Fin128 x) (b : Fin 8) (s : Fin 2048) (g : Fin 144) :
    kScale (tOf (kRow (grp x b s g) Signs.signs)) = Ideal.exp2 (expR (tR (rotR x Signs.signs)) (ix3 b s g))
    ∧ kInv (tOf (kRow (grp x b s g) Signs.signs)) = Ideal.exp2 (Ideal.ofBits .f32 0x00000000#32 - expR (tR (rotR x Signs.signs)) (ix3 b s g)) := by
  rw [expR_apply, tR_apply, show (fun k => rotR x Signs.signs (ix4 b s g k)) = kRow (grp x b s g) Signs.signs from funext fun k => rot_row x hx b s g k]
  have ht := t_bounds (grp x b s g) Signs.signs_pm (fun _ => hx _)
  exact kernel_eq_ref (fun j => kvals (ix1 j)) kvals_apply _ ht.1 ht.2

theorem code4 (hx : Fin128 x) (b : Fin 8) (s : Fin 2048) (g : Fin 144) (j : Fin 128) :
    (k0_pay2 (F := Ideal) (expR (tR (rotR x Signs.signs))) (rotR x Signs.signs) : S8x2048x144x128.Idx → EReal) (ix4 b s g j)
      = codeOf (kRow (grp x b s g) Signs.signs) j := by
  rw [pay2_apply, rot_row x hx, ← (exp_row x hx b s g).2]
  rfl

theorem scale4 (hx : Fin128 x) (b : Fin 8) (s : Fin 2048) (g : Fin 144) :
    (k0_pay1 (F := Ideal) (expR (tR (rotR x Signs.signs))) : S8x2048x144.Idx → EReal) (ix3 b s g) = scaleF x b s g := by
  rw [pay1_apply]
  exact (exp_row x hx b s g).1.symm

theorem xa4 (hx : Fin128 x) (b : Fin 8) (s : Fin 2048) (g : Fin 144) (j : Fin 128) :
    (k0_pay3 (F := Ideal) (expR (tR (rotR x Signs.signs))) (expR (tR (rotR x Signs.signs))) (rotR x Signs.signs) : S8x2048x144x128.Idx → EReal) (ix4 b s g j)
      = xaOf (kRow (grp x b s g) Signs.signs) j := by
  rw [pay3_apply, rot_row x hx, ← (exp_row x hx b s g).2, ← (exp_row x hx b s g).1]
  rfl

theorem idx_eq (b : Fin 8) (s : Fin 2048) (d : Fin 18432) :
    Read.idx_main_v33 (ix3 b s d) = ix4 b s (⟨d.val / 128, by omega⟩ : Fin 144) (⟨d.val % 128, by omega⟩ : Fin 128) :=
  funext fun a => Fin.ext (by
    match a with
    | ⟨0, _⟩ => show ((b.val * 2048 + s.val) * 18432 + d.val) / 37748736 = b.val; omega
    | ⟨1, _⟩ => show ((b.val * 2048 + s.val) * 18432 + d.val) / 18432 % 2048 = s.val; omega
    | ⟨2, _⟩ => show ((b.val * 2048 + s.val) * 18432 + d.val) / 128 % 144 = d.val / 128; omega
    | ⟨3, _⟩ => show ((b.val * 2048 + s.val) * 18432 + d.val) % 128 = d.val % 128; omega)

/-- Codes laid out flat. -/
theorem codes_flat (hx : Fin128 x) (b : Fin 8) (s : Fin 2048) (d : Fin 18432) :
    (Read.val_main_v39 (F := Ideal) (k0_pay2 (F := Ideal) (expR (tR (rotR x Signs.signs))) (rotR x Signs.signs)) : S8x2048x18432.Idx → EReal) (ix3 b s d)
      = codesF x b s d := by
  rw [Read.val_main_v39_apply]
  refine (congrArg _ (idx_eq b s d)).trans ?_
  exact code4 x hx b s _ _

/-- The product. -/
theorem y_flat (hx : Fin128 x) (w : FVec Ideal S18432x7168 .fp8e4m3) (ws : FVec Ideal S7168 .f32) (b : Fin 8) (s : Fin 2048) (o : Fin 7168) :
    (Read.val_main_v38 (F := Ideal) ws (k0_pay3 (F := Ideal) (expR (tR (rotR x Signs.signs))) (expR (tR (rotR x Signs.signs))) (rotR x Signs.signs)) (k0_pay4 (F := Ideal) w)
      : S8x2048x7168.Idx → EReal) (ix3 b s o) = yF x w ws b s o := by
  have h := fun g j => xa4 x hx b s g j
  revert h
  generalize (k0_pay3 (F := Ideal) (expR (tR (rotR x Signs.signs))) (expR (tR (rotR x Signs.signs))) (rotR x Signs.signs)) = r
  intro h
  rw [Read.val_main_v38_apply, Read.val_main_v37_apply, Read.val_main_v34_apply, Read.val_main_v36_apply, Read.val_main_v35_apply]
  unfold yF
  show (∑ k : Fin 18432, _) * _ = (∑ k : Fin 18432, _) * _
  refine congrArg₂ (· * ·) (Finset.sum_congr rfl fun k _ => congrArg₂ (· * ·) ?_ ?_) (congrArg ws ?_)
  · rw [Read.val_main_v33_apply]
    have e : Read.lidx_main_v34 (ix3 b s o) k = ix3 b s k := funext fun a => by match a with | ⟨0, _⟩ => rfl | ⟨1, _⟩ => rfl | ⟨2, _⟩ => rfl
    rw [e, idx_eq]
    exact h _ _
  · show w _ = w _
    exact congrArg w (funext fun a => by match a with | ⟨0, _⟩ => rfl | ⟨1, _⟩ => rfl)
  · exact funext fun a => by match a with | ⟨0, _⟩ => rfl

end Cert.ReferenceIdeal.Hand

end
-- ==== Proof.Equation.lean ====
/-
  The kernel and the reference give the same three results from the same arguments, when the first argument is finite.
-/
module

public import proofs.«01_k».proof.Defs
public import proofs.«01_k».proof.Proof.KernelRun
public import proofs.«01_k».proof.Proof.KernelVals
public import proofs.«01_k».proof.Proof.RefVals
public import proofs.«01_k».proof.Proof.Gen.Pre_finite

@[expose] public section

set_option maxRecDepth 16384

noncomputable section

namespace Cert.Equation

open Idealize.ShloMosaic hiding ix0 ix1 ix2 ix3 ix4 ix5 eq_ix3
open Idealize.SL.Sem Idealize.ShloMosaic.TcCoe Idealize.ShloMosaic.ValueIdx Cert.Quant Cert.Rows

/-- The largest finite bf16 value is below 2¹²⁸. -/
theorem ofBits_max : Ideal.ofBits .bf16 0x7F7F#16 ≤ ((2 ^ 128 : ℝ) : EReal) := by
  have h : Ideal.ofBits .bf16 0x7F7F#16 = ((255 * 2 ^ 120 : ℝ) : EReal) := by
    simp [Ideal.ofBits, Ideal.ieee, -EReal.coe_mul]
  rw [h]
  exact EReal.coe_le_coe_iff.mpr (by norm_num)

/-- A value whose magnitude is at most the largest finite bf16 value is a real of magnitude at most 2¹²⁸. -/
theorem real_of_le (a : EReal) (h : max a (-a) ≤ Ideal.ofBits .bf16 0x7F7F#16) : ∃ r : ℝ, a = (r : EReal) ∧ |r| ≤ 2 ^ 128 := by
  have h' := h.trans ofBits_max
  have h1 := (le_max_left a (-a)).trans h'
  have h2 := (le_max_right a (-a)).trans h'
  induction a using EReal.rec with
  | bot => exact absurd h2 (by rw [EReal.neg_bot]; exact not_le.mpr (EReal.coe_lt_top _))
  | top => exact absurd h1 (not_le.mpr (EReal.coe_lt_top _))
  | coe r =>
    refine ⟨r, rfl, abs_le.mpr ⟨?_, EReal.coe_le_coe_iff.mp h1⟩⟩
    rw [← EReal.coe_neg] at h2
    have := EReal.coe_le_coe_iff.mp h2
    linarith

/-- What the precondition says of the first argument. -/
theorem fin_of_pre (x : FVec Ideal Cert.Pre_finite.S8x2048x18432 .bf16) (w : FVec Ideal Cert.Pre_finite.S18432x7168 .fp8e4m3) (ws : FVec Ideal Cert.Pre_finite.S7168 .f32)
    [Cert.Pre_finite.Facts] (h : Cert.Pre_finite.fn (F := Ideal) x w ws = fun _ => 1#1) : Cert.ReferenceIdeal.Hand.Fin128 x := by
  intro i
  refine real_of_le (x i) ?_
  have hi := congrFun h i
  change FloatOps.cmpf (F := Ideal) (φ := .bf16) .ole (max (x i) (-(x i))) (broadcastInDim _ _ _ _ i) = 1#1 at hi
  rw [broadcastInDim_scalar_apply] at hi
  change BitVec.ofBool (decide (max (x i) (-(x i)) ≤ Ideal.ofBits .bf16 0x7F7F#16)) = 1#1 at hi
  by_contra hn
  rw [decide_eq_false hn] at hi
  exact absurd hi (by decide)

section
variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The scales agree. -/
theorem scale_eq (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (hx : Cert.ReferenceIdeal.Hand.Fin128 (m ((c.tc : Thread Cert.KernelIdeal.nD Cert.KernelIdeal.τ).loc Cert.KernelIdeal.main_arg0))) :
    Cert.ReferenceIdeal.Value.reg_main_v32_1 m' c = Cert.KernelIdeal.Gen.W5 m g c Cert.KernelIdeal.main_v6 := by
  refine (Cert.ReferenceIdeal.Hand.arr4 m' c).trans ?_
  rw [Cert.ReferenceIdeal.Hand.V_v31, h0]
  funext i
  obtain ⟨a, b, d, rfl⟩ : ∃ a b d, i = ix3 a b d := ⟨_, _, _, eq_ix3 i⟩
  exact (Cert.ReferenceIdeal.Hand.scale4 _ hx a b d).trans (Cert.KernelIdeal.Hand.scale_apply m g c a b d).symm

/-- The codes agree. -/
theorem codes_eq (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (hx : Cert.ReferenceIdeal.Hand.Fin128 (m ((c.tc : Thread Cert.KernelIdeal.nD Cert.KernelIdeal.τ).loc Cert.KernelIdeal.main_arg0))) :
    Cert.ReferenceIdeal.Read.val_main_v39 (F := Ideal) (Cert.ReferenceIdeal.Value.reg_main_v32_0 m' c) = Cert.KernelIdeal.Gen.W5 m g c Cert.KernelIdeal.main_v5 := by
  refine (congrArg _ (Cert.ReferenceIdeal.Hand.arr3 m' c)).trans ?_
  rw [Cert.ReferenceIdeal.Hand.V_v31, Cert.ReferenceIdeal.Hand.V_v12, h0]
  funext i
  obtain ⟨a, b, d, rfl⟩ : ∃ a b d, i = ix3 a b d := ⟨_, _, _, eq_ix3 i⟩
  exact (Cert.ReferenceIdeal.Hand.codes_flat _ hx a b d).trans (Cert.KernelIdeal.Hand.codes_apply m g c a b d).symm

/-- The products agree. -/
theorem y_eq (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (hx : Cert.ReferenceIdeal.Hand.Fin128 (m ((c.tc : Thread Cert.KernelIdeal.nD Cert.KernelIdeal.τ).loc Cert.KernelIdeal.main_arg0))) :
    Cert.ReferenceIdeal.Read.val_main_v38 (F := Ideal) (m' ((c.tc : Thread Cert.ReferenceIdeal.nD Cert.ReferenceIdeal.τ).loc Cert.ReferenceIdeal.main_arg2))
      (Cert.ReferenceIdeal.Value.reg_main_v32_2 m' c) (Cert.ReferenceIdeal.Value.reg_main_v32_3 m' c) = Cert.KernelIdeal.Gen.W5 m g c Cert.KernelIdeal.main_v4 := by
  have e2 := Cert.ReferenceIdeal.Hand.arr5 m' c
  have e3 := Cert.ReferenceIdeal.Hand.arr6 m' c
  rw [Cert.ReferenceIdeal.Hand.V_v31, Cert.ReferenceIdeal.Hand.V_v12, h0] at e2
  rw [Cert.ReferenceIdeal.Gen.V_main_arg1, h1] at e3
  rw [h2]
  refine (congrArg₂ (Cert.ReferenceIdeal.Read.val_main_v38 (F := Ideal) _) e2 e3).trans ?_
  funext i
  obtain ⟨a, b, d, rfl⟩ : ∃ a b d, i = ix3 a b d := ⟨_, _, _, eq_ix3 i⟩
  exact (Cert.ReferenceIdeal.Hand.y_flat _ hx _ _ a b d).trans (Cert.KernelIdeal.Hand.y_apply m g c a b d).symm

end

/-- From finite first arguments, the kernel and the reference end with the same product, codes and scales. -/
theorem algebraic : @Cert.algebraic_KernelIdeal_ReferenceIdeal_pre_finite Cert.KernelIdeal.Gen.facts Cert.ReferenceIdeal.Gen.facts Cert.Pre_finite.Gen.facts := by
  intro m g m' g' hpre harg
  have hx : ∀ c : Dev Cert.KernelIdeal.nD, Cert.ReferenceIdeal.Hand.Fin128 (m ((c.tc : Thread Cert.KernelIdeal.nD Cert.KernelIdeal.τ).loc Cert.KernelIdeal.main_arg0)) :=
    fun c => @fin_of_pre _ _ _ Cert.Pre_finite.Gen.facts (hpre c)
  refine ⟨fun c => Cert.KernelIdeal.Gen.W5 m g c Cert.KernelIdeal.main_v4, fun c => Cert.KernelIdeal.Gen.W5 m g c Cert.KernelIdeal.main_v5,
    fun c => Cert.KernelIdeal.Gen.W5 m g c Cert.KernelIdeal.main_v6, Cert.KernelIdeal.Hand.run m g,
    (θ_run Cert.ReferenceIdeal.defs _ _).mono (fun r h c => ?_) (Cert.ReferenceIdeal.Value.run m' g')⟩
  obtain ⟨h38, h39, h32, ha⟩ := h c
  exact ⟨h38.trans (y_eq m g m' c (harg c).1 (harg c).2.1 (harg c).2.2 (hx c)), h39.trans (codes_eq m g m' c (harg c).1 (hx c)),
    h32.trans (scale_eq m g m' c (harg c).1 (hx c)), ha⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts, fun m ρ _ => Cert.Kernel.Gen.frame m ρ, fun m ρ _ => Cert.KernelIdeal.Gen.frame m ρ, fun m ρ _ => Cert.KernelIdeal.Gen.frame m ρ, fun m ρ _ => Cert.ReferenceIdeal.Gen.frame m ρ, fun m ρ _ => Cert.ReferenceIdeal.Gen.frame m ρ, trivial,
  Cert.Equation.algebraic⟩

end Cert.Proof

end
